-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackReferenceIdeal (m : (ℓ : Loc Cert.PackReferenceIdeal.nD Cert.PackReferenceIdeal.τ Cert.PackReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_open_gates [hPre_open_gates : Cert.Pre_open_gates.Facts] (m : (ℓ : Loc Cert.GatesIdeal.nD Cert.GatesIdeal.τ Cert.GatesIdeal.sig) → Buf (Elt Ideal) ℓ) : Prop :=
  ∀ c : Dev Cert.GatesIdeal.nD,
    (Cert.Pre_open_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1))).1 = (fun _ => 1#1)
    ∧ (Cert.Pre_open_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1))).2 = (fun _ => 1#1)

def Pre_GatesReferenceIdeal (m : (ℓ : Loc Cert.GatesReferenceIdeal.nD Cert.GatesReferenceIdeal.τ Cert.GatesReferenceIdeal.sig) → Buf (Elt Ideal) ℓ) : Prop :=
  True

def Pre_GatesReferenceIdeal_open_gates [hPre_open_gates : Cert.Pre_open_gates.Facts] (m : (ℓ : Loc Cert.GatesReferenceIdeal.nD Cert.GatesReferenceIdeal.τ Cert.GatesReferenceIdeal.sig) → Buf (Elt Ideal) ℓ) : Prop :=
  ∀ c : Dev Cert.GatesReferenceIdeal.nD,
    (Cert.Pre_open_gates.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1))).1 = (fun _ => 1#1)
    ∧ (Cert.Pre_open_gates.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackReferenceIdeal [hPackReferenceIdeal : Cert.PackReferenceIdeal.Facts] : Prop :=
  ∀ (m : (ℓ : Loc Cert.PackReferenceIdeal.nD Cert.PackReferenceIdeal.τ Cert.PackReferenceIdeal.sig) → Buf (Elt Ideal) ℓ) (g : Dev Cert.PackReferenceIdeal.nD → PrngReg), Pre_PackReferenceIdeal m →
    θ_run (Cert.PackReferenceIdeal.defs (F := Ideal)) (onTc (τ := Cert.PackReferenceIdeal.τ) (Cert.PackReferenceIdeal.main (F := Ideal))) ⟨m, fun _ => 0, g⟩ (fun r => (∀ c : Dev Cert.PackReferenceIdeal.nD,
      r.2.mem ((c.tc : Thread Cert.PackReferenceIdeal.nD Cert.PackReferenceIdeal.τ).loc Cert.PackReferenceIdeal.main_arg0) = m ((c.tc : Thread Cert.PackReferenceIdeal.nD Cert.PackReferenceIdeal.τ).loc Cert.PackReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesIdeal_pre_open_gates [hGatesIdeal : Cert.GatesIdeal.Facts] [hPre_open_gates : Cert.Pre_open_gates.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_open_gates m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_GatesReferenceIdeal_pre_open_gates [hGatesReferenceIdeal : Cert.GatesReferenceIdeal.Facts] [hPre_open_gates : Cert.Pre_open_gates.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal_open_gates m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v3) = v0 c
          ∧ r.2.mem ((c.tc : Thread Cert.InprojReferenceIdeal.nD Cert.InprojReferenceIdeal.τ).loc Cert.InprojReferenceIdeal.main_v5) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)) →
    ∃ (v0 : (c : Dev Cert.MemkvIdeal.nD) → Buf (Elt Ideal) ((c.tc : Thread Cert.MemkvIdeal.nD Cert.MemkvIdeal.τ).loc Cert.MemkvIdeal.main_v1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v1) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v1) = v0 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1))

def preserves_Pack_PackIdeal : Prop :=
  True

def algebraic_PackIdeal_PackReferenceIdeal [hPackIdeal : Cert.PackIdeal.Facts] [hPackReferenceIdeal : Cert.PackReferenceIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackReferenceIdeal.nD Cert.PackReferenceIdeal.τ Cert.PackReferenceIdeal.sig) → Buf (Elt Ideal) ℓ) (g' : Dev Cert.PackReferenceIdeal.nD → PrngReg), Pre_PackIdeal m →
    (∀ c : Dev Cert.PackIdeal.nD,
      m' ((c.tc : Thread Cert.PackReferenceIdeal.nD Cert.PackReferenceIdeal.τ).loc Cert.PackReferenceIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v0_0)) (v1 : (c : Dev Cert.PackIdeal.nD) → Buf (Elt Ideal) ((c.tc : Thread Cert.PackIdeal.nD Cert.PackIdeal.τ).loc Cert.PackIdeal.main_v0_1)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0_0) = v0 c
          ∧ r.2.mem ((c.tc : Thread Cert.PackIdeal.nD Cert.PackIdeal.τ).loc Cert.PackIdeal.main_v0_1) = v1 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackReferenceIdeal.defs (F := Ideal)) (onTc (τ := Cert.PackReferenceIdeal.τ) (Cert.PackReferenceIdeal.main (F := Ideal))) ⟨m', fun _ => 0, g'⟩ (fun r => ∀ c : Dev Cert.PackReferenceIdeal.nD,
          r.2.mem ((c.tc : Thread Cert.PackReferenceIdeal.nD Cert.PackReferenceIdeal.τ).loc Cert.PackReferenceIdeal.main_v6) = v0 c
          ∧ r.2.mem ((c.tc : Thread Cert.PackReferenceIdeal.nD Cert.PackReferenceIdeal.τ).loc Cert.PackReferenceIdeal.main_v8) = v1 c
          ∧ r.2.mem ((c.tc : Thread Cert.PackReferenceIdeal.nD Cert.PackReferenceIdeal.τ).loc Cert.PackReferenceIdeal.main_arg0) = m' ((c.tc : Thread Cert.PackReferenceIdeal.nD Cert.PackReferenceIdeal.τ).loc Cert.PackReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v69) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Gates_GatesIdeal : Prop :=
  True

def algebraic_GatesIdeal_GatesReferenceIdeal_pre_open_gates [hGatesIdeal : Cert.GatesIdeal.Facts] [hGatesReferenceIdeal : Cert.GatesReferenceIdeal.Facts] [hPre_open_gates : Cert.Pre_open_gates.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal_open_gates m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v24) = v0 c
          ∧ r.2.mem ((c.tc : Thread Cert.GatesReferenceIdeal.nD Cert.GatesReferenceIdeal.τ).loc Cert.GatesReferenceIdeal.main_v25) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hMemkv : Cert.Memkv.Facts) (hMemkvIdeal : Cert.MemkvIdeal.Facts) (hMemkvReferenceIdeal : Cert.MemkvReferenceIdeal.Facts) (hPack : Cert.Pack.Facts) (hPackIdeal : Cert.PackIdeal.Facts) (hPackReferenceIdeal : Cert.PackReferenceIdeal.Facts) (hFfn : Cert.Ffn.Facts) (hFfnIdeal : Cert.FfnIdeal.Facts) (hFfnReferenceIdeal : Cert.FfnReferenceIdeal.Facts) (hGates : Cert.Gates.Facts) (hGatesIdeal : Cert.GatesIdeal.Facts) (hGatesReferenceIdeal : Cert.GatesReferenceIdeal.Facts) (hPre_finite : Cert.Pre_finite.Facts) (hPre_open_gates : Cert.Pre_open_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Pack (hPack := hPack)
    ∧ quiescent_PackIdeal (hPackIdeal := hPackIdeal)
    ∧ quiescent_PackReferenceIdeal (hPackReferenceIdeal := hPackReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Gates (hGates := hGates)
    ∧ quiescent_GatesIdeal (hGatesIdeal := hGatesIdeal)
    ∧ quiescent_GatesIdeal_pre_open_gates (hGatesIdeal := hGatesIdeal) (hPre_open_gates := hPre_open_gates)
    ∧ quiescent_GatesReferenceIdeal (hGatesReferenceIdeal := hGatesReferenceIdeal)
    ∧ quiescent_GatesReferenceIdeal_pre_open_gates (hGatesReferenceIdeal := hGatesReferenceIdeal) (hPre_open_gates := hPre_open_gates)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojReferenceIdeal (hInprojIdeal := hInprojIdeal) (hInprojReferenceIdeal := hInprojReferenceIdeal)
    ∧ preserves_Memkv_MemkvIdeal
    ∧ algebraic_MemkvIdeal_MemkvReferenceIdeal (hMemkvIdeal := hMemkvIdeal) (hMemkvReferenceIdeal := hMemkvReferenceIdeal)
    ∧ preserves_Pack_PackIdeal
    ∧ algebraic_PackIdeal_PackReferenceIdeal (hPackIdeal := hPackIdeal) (hPackReferenceIdeal := hPackReferenceIdeal)
    ∧ preserves_Ffn_FfnIdeal
    ∧ algebraic_FfnIdeal_FfnReferenceIdeal (hFfnIdeal := hFfnIdeal) (hFfnReferenceIdeal := hFfnReferenceIdeal)
    ∧ preserves_Gates_GatesIdeal
    ∧ algebraic_GatesIdeal_GatesReferenceIdeal_pre_open_gates (hGatesIdeal := hGatesIdeal) (hGatesReferenceIdeal := hGatesReferenceIdeal) (hPre_open_gates := hPre_open_gates)
-- ==== Pre_finite.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1024x1024 : Shape := ⟨2, ![1024, 1024]⟩
abbrev S1024 : Shape := ⟨1, ![1024]⟩
abbrev S16x256x2048 : Shape := ⟨3, ![16, 256, 2048]⟩
abbrev S_ : Shape := ⟨0, ![]⟩

class Facts : Prop where
  bcast_S_S1024 : S_.BroadcastsInDim S1024 (![] : Fin 0 → Fin S1024.rank)
  bitsLt_bf16_f32 : FTy.bits .bf16 < FTy.bits .f32
  bcast_S_S16x256x2048 : S_.BroadcastsInDim S16x256x2048 (![] : Fin 0 → Fin S16x256x2048.rank)
  bcast_S_S1024x1024 : S_.BroadcastsInDim S1024x1024 (![] : Fin 0 → Fin S1024x1024.rank)

variable [Facts]

def fn {F : FTy → Type} [FloatOps F] (main_arg0 : FVec F S16x2048x1024 .f32) (main_arg1 : FVec F S16x2048x256 .bf16) (main_arg2 : FVec F S16x2048x256 .bf16) (main_arg3 : FVec F S16x2048x512 .bf16) (main_arg4 : FVec F S1024x1024 .f32) (main_arg5 : FVec F S1024 .f32) (main_arg6 : FVec F S1024 .f32) (main_arg7 : FVec F S16x256x2048 .bf16) (main_arg8 : FVec F S1024x1024 .f32) (main_arg9 : FVec F S1024x1024 .f32) (main_arg10 : FVec F S1024 .f32) (main_arg11 : FVec F S1024 .f32) : IVec S1024 1 × IVec S1024 1 × IVec S16x256x2048 1 × IVec S1024x1024 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg6
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S16x256x2048 .f32 := (extf .f32 · bitsLt_bf16_f32) main_arg7
  let main_v7 : FVec F S16x256x2048 .f32 := Host.absf main_v6
  let main_cst_1 : FVec F S_ .f32 := constant S_ .f32 0x7F800000#32
  let main_v8 : FVec F S16x256x2048 .f32 := broadcastInDim S16x256x2048 ![] bcast_S_S16x256x2048 main_cst_1
  let main_v9 : IVec S16x256x2048 1 := cmpf .olt main_v7 main_v8
  let main_v10 : FVec F S1024x1024 .f32 := Host.absf main_arg8
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  (main_v2, main_v5, main_v9, main_v12)
-- ==== Pre_open_gates.lean ====
abbrev S16x2048x128 : Shape := ⟨3, ![16, 2048, 128]⟩
abbrev S4 : Shape := ⟨1, ![4]⟩
abbrev S16x2048x4 : Shape := ⟨3, ![16, 2048, 4]⟩
abbrev S_ : Shape := ⟨0, ![]⟩

class Facts : Prop where
  slices_S16x2048x128_S16x2048x4_0_0_0 : S16x2048x128.Slices ![0, 0, 0] S16x2048x4
  bcast_S_S16x2048x4 : S_.BroadcastsInDim S16x2048x4 (![] : Fin 0 → Fin S16x2048x4.rank)
  bcast_S_S4 : S_.BroadcastsInDim S4 (![] : Fin 0 → Fin S4.rank)

variable [Facts]

def fn {F : FTy → Type} [FloatOps F] (main_arg0 : FVec F S16x2048x128 .f32) (main_arg1 : FVec F S4 .f32) : IVec S16x2048x4 1 × IVec S4 1 :=
  let main_v0 : FVec F S16x2048x4 .f32 := (extractStridedSlice S16x2048x4 ![0, 0, 0] · slices_S16x2048x128_S16x2048x4_0_0_0) main_arg0
  let main_cst : FVec F S_ .f32 := constant S_ .f32 0xFF800000#32
  let main_v1 : FVec F S16x2048x4 .f32 := broadcastInDim S16x2048x4 ![] bcast_S_S16x2048x4 main_cst
  let main_v2 : IVec S16x2048x4 1 := cmpf .ogt main_v0 main_v1
  let main_cst_0 : FVec F S_ .f32 := constant S_ .f32 0xFF800000#32
  let main_v3 : FVec F S4 .f32 := broadcastInDim S4 ![] bcast_S_S4 main_cst_0
  let main_v4 : IVec S4 1 := cmpf .ogt main_arg1 main_v3
  (main_v2, main_v4)
-- ==== Kernel.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1024x1024 : Shape := ⟨2, ![1024, 1024]⟩
abbrev S1024 : Shape := ⟨1, ![1024]⟩
abbrev S16x256x2048 : Shape := ⟨3, ![16, 256, 2048]⟩
abbrev S1x1024 : Shape := ⟨2, ![1, 1024]⟩
abbrev S1x1024x1024 : Shape := ⟨3, ![1, 1024, 1024]⟩
abbrev S1x1024x256 : Shape := ⟨3, ![1, 1024, 256]⟩
abbrev S1x1024x512 : Shape := ⟨3, ![1, 1024, 512]⟩
abbrev S1x256x2048 : Shape := ⟨3, ![1, 256, 2048]⟩
abbrev S1024x256 : Shape := ⟨2, ![1024, 256]⟩
abbrev S256x1024 : Shape := ⟨2, ![256, 1024]⟩
abbrev S1024x512 : Shape := ⟨2, ![1024, 512]⟩
abbrev S512x1024 : Shape := ⟨2, ![512, 1024]⟩
abbrev S1024x1 : Shape := ⟨2, ![1024, 1]⟩
abbrev S1x256x256 : Shape := ⟨3, ![1, 256, 256]⟩
abbrev S256x256 : Shape := ⟨2, ![256, 256]⟩

abbrev nBuf : Space → Nat
  | .hbm => 20
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .bf16⟩
  | .hbm, ⟨2, _⟩ => ⟨S16x2048x256, .bf16⟩
  | .hbm, ⟨3, _⟩ => ⟨S16x2048x512, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16x256x2048, .bf16⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x256x2048, .bf16⟩
  | .local _ .vmem, ⟨12, _⟩ => ⟨S1x256x2048, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024x1024, .f32⟩
  | .local _ .vmem, ⟨18, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1024x1024 : Shape := ⟨2, ![1024, 1024]⟩
abbrev S1024 : Shape := ⟨1, ![1024]⟩
abbrev S16x256x2048 : Shape := ⟨3, ![16, 256, 2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S16x256x1024 : Shape := ⟨3, ![16, 256, 1024]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 110
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .bf16⟩
  | .hbm, ⟨2, _⟩ => ⟨S16x2048x256, .bf16⟩
  | .hbm, ⟨3, _⟩ => ⟨S16x2048x512, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S16x256x2048, .bf16⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S16x2048x1024, .bf16⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S1x1x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x4x256, .f32⟩
  | .hbm, ⟨53, _⟩ => ⟨S16x256x2048, .f32⟩
  | .hbm, ⟨54, _⟩ => ⟨S16x256x1024, .f32⟩
  | .hbm, ⟨55, _⟩ => ⟨S16x256x1024, .f32⟩
  | .hbm, ⟨56, _⟩ => ⟨S16x256x4x256, .f32⟩
  | .hbm, ⟨57, _⟩ => ⟨S16x256x4x256, .f32⟩
  | .hbm, ⟨58, _⟩ => ⟨S16x4x2048x256, .f32⟩
  | .hbm, ⟨59, _⟩ => ⟨S_, .f32⟩
  | .hbm, ⟨60, _⟩ => ⟨S16x4x2048x256, .f32⟩
  | .hbm, ⟨61, _⟩ => ⟨S16x4x2048x256, .f32⟩
  | .hbm, ⟨62, _⟩ => ⟨S_, .f32⟩
  | .hbm, ⟨63, _⟩ => ⟨S16x4x2048, .f32⟩
  | .hbm, ⟨64, _⟩ => ⟨S_, .f32⟩
  | .hbm, ⟨65, _⟩ => ⟨S16x4x2048, .f32⟩
  | .hbm, ⟨66, _⟩ => ⟨S16x4x2048, .f32⟩
  | .hbm, ⟨67, _⟩ => ⟨S16x4x2048x1, .f32⟩
  | .hbm, ⟨68, _⟩ => ⟨S16x4x2048x256, .f32⟩
  | .hbm, ⟨69, _⟩ => ⟨S16x4x2048x256, .f32⟩
  | .hbm, ⟨70, _⟩ => ⟨S16x4x2048x256, .f32⟩
  | .hbm, ⟨71, _⟩ => ⟨S_, .f32⟩
  | .hbm, ⟨72, _⟩ => ⟨S16x4x2048, .f32⟩
  | .hbm, ⟨73, _⟩ => ⟨S16x4x2048x1, .f32⟩
  | .hbm, ⟨74, _⟩ => ⟨S16x4x2048x256, .f32⟩
  | .hbm, ⟨75, _⟩ => ⟨S16x4x2048x256, .f32⟩
  | .hbm, ⟨76, _⟩ => ⟨S16x4x256x2048, .f32⟩
  | .hbm, ⟨77, _⟩ => ⟨S16x2048x4x256, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S_, .f32⟩
  | .hbm, ⟨82, _⟩ => ⟨S16x2048, .f32⟩
  | .hbm, ⟨83, _⟩ => ⟨S16x2048x1, .f32⟩
  | .hbm, ⟨84, _⟩ => ⟨S_, .f32⟩
  | .hbm, ⟨85, _⟩ => ⟨S16x2048x1, .f32⟩
  | .hbm, ⟨86, _⟩ => ⟨S16x2048x1, .f32⟩
  | .hbm, ⟨87, _⟩ => ⟨S16x2048x1024, .f32⟩
  | .hbm, ⟨88, _⟩ => ⟨S16x2048x1024, .f32⟩
  | .hbm, ⟨89, _⟩ => ⟨S16x2048x1024, .f32⟩
  | .hbm, ⟨90, _⟩ => ⟨S_, .f32⟩
  | .hbm, ⟨91, _⟩ => ⟨S16x2048, .f32⟩
  | .hbm, ⟨92, _⟩ => ⟨S16x2048x1, .f32⟩
  | .hbm, ⟨93, _⟩ => ⟨S_, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S_, .f32⟩
  | .hbm, ⟨99, _⟩ => ⟨S16x2048x1, .f32⟩
  | .hbm, ⟨100, _⟩ => ⟨S16x2048x1, .f32⟩
  | .hbm, ⟨101, _⟩ => ⟨S16x2048x1, .f32⟩
  | .hbm, ⟨102, _⟩ => ⟨S16x2048x1024, .f32⟩
  | .hbm, ⟨103, _⟩ => ⟨S16x2048x1024, .f32⟩
  | .hbm, ⟨104, _⟩ => ⟨S1x1x1024, .f32⟩
  | .hbm, ⟨105, _⟩ => ⟨S16x2048x1024, .f32⟩
  | .hbm, ⟨106, _⟩ => ⟨S16x2048x1024, .f32⟩
  | .hbm, ⟨107, _⟩ => ⟨S1x1x1024, .f32⟩
  | .hbm, ⟨108, _⟩ => ⟨S16x2048x1024, .f32⟩
  | .hbm, ⟨109, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Inproj.lean ====
abbrev S16x2048x1024 : Shape := ⟨3, ![16, 2048, 1024]⟩
abbrev S1024x3072 : Shape := ⟨2, ![1024, 3072]⟩
abbrev S1024x128 : Shape := ⟨2, ![1024, 128]⟩
abbrev S32768x1024 : Shape := ⟨2, ![32768, 1024]⟩
abbrev S32768x3072 : Shape := ⟨2, ![32768, 3072]⟩
abbrev S32768x128 : Shape := ⟨2, ![32768, 128]⟩
abbrev S512x1024 : Shape := ⟨2, ![512, 1024]⟩
abbrev S512x3072 : Shape := ⟨2, ![512, 3072]⟩
abbrev S512x128 : Shape := ⟨2, ![512, 128]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024x3072, .bf16⟩
  | .hbm, ⟨2, _⟩ => ⟨S1024x128, .bf16⟩
  | .hbm, ⟨3, _⟩ => ⟨S32768x1024, .f32⟩
  | .hbm, ⟨4, _⟩ => ⟨S32768x3072, .bf16⟩
  | .hbm, ⟨5, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S512x3072, .bf16⟩
  | .local _ .vmem, ⟨5, _⟩ => ⟨S512x3072, .bf16⟩
  | .local _ .vmem, ⟨6, _⟩ => ⟨S512x128, .f32⟩
  | .local _ .vmem, ⟨7, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojReferenceIdeal.lean ====
abbrev S16x2048x1024 : Shape := ⟨3, ![16, 2048, 1024]⟩
abbrev S1024x3072 : Shape := ⟨2, ![1024, 3072]⟩
abbrev S1024x128 : Shape := ⟨2, ![1024, 128]⟩
abbrev S32768x1024 : Shape := ⟨2, ![32768, 1024]⟩
abbrev S32768x3072 : Shape := ⟨2, ![32768, 3072]⟩
abbrev S32768x128 : Shape := ⟨2, ![32768, 128]⟩

abbrev nBuf : Space → Nat
  | .hbm => 9
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x3072, .bf16⟩
  | .hbm, ⟨2, _⟩ => ⟨S1024x128, .bf16⟩
  | .hbm, ⟨3, _⟩ => ⟨S32768x1024, .f32⟩
  | .hbm, ⟨4, _⟩ => ⟨S1024x3072, .f32⟩
  | .hbm, ⟨5, _⟩ => ⟨S32768x3072, .f32⟩
  | .hbm, ⟨6, _⟩ => ⟨S32768x3072, .bf16⟩
  | .hbm, ⟨7, _⟩ => ⟨S1024x128, .f32⟩
  | .hbm, ⟨8, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Memkv.lean ====
abbrev S16x256x1024 : Shape := ⟨3, ![16, 256, 1024]⟩
abbrev S1024x2048 : Shape := ⟨2, ![1024, 2048]⟩
abbrev S16x256x2048 : Shape := ⟨3, ![16, 256, 2048]⟩
abbrev S1x256x1024 : Shape := ⟨3, ![1, 256, 1024]⟩
abbrev S1x256x2048 : Shape := ⟨3, ![1, 256, 2048]⟩
abbrev S256x1024 : Shape := ⟨2, ![256, 1024]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16x256x1024, .f32⟩
  | .hbm, ⟨1, _⟩ => ⟨S1024x2048, .f32⟩
  | .hbm, ⟨2, _⟩ => ⟨S1024x2048, .bf16⟩
  | .hbm, ⟨3, _⟩ => ⟨S16x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1024x2048, .bf16⟩
  | .local _ .vmem, ⟨3, _⟩ => ⟨S1x256x2048, .bf16⟩
  | .local _ .vmem, ⟨4, _⟩ => ⟨S1x256x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemkvReferenceIdeal.lean ====
abbrev S16x256x1024 : Shape := ⟨3, ![16, 256, 1024]⟩
abbrev S1024x2048 : Shape := ⟨2, ![1024, 2048]⟩
abbrev S16x256x2048 : Shape := ⟨3, ![16, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x2048, .f32⟩
  | .hbm, ⟨2, _⟩ => ⟨S16x256x2048, .f32⟩
  | .hbm, ⟨3, _⟩ => ⟨S16x256x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pack.lean ====
abbrev S2x1024x3076 : Shape := ⟨3, ![2, 1024, 3076]⟩
abbrev S1024x3072 : Shape := ⟨2, ![1024, 3072]⟩
abbrev S1024x128 : Shape := ⟨2, ![1024, 128]⟩
abbrev S1x256x3076 : Shape := ⟨3, ![1, 256, 3076]⟩
abbrev S256x3072 : Shape := ⟨2, ![256, 3072]⟩
abbrev S256x128 : Shape := ⟨2, ![256, 128]⟩
abbrev S256x3076 : Shape := ⟨2, ![256, 3076]⟩
abbrev S256x768 : Shape := ⟨2, ![256, 768]⟩
abbrev S256x2304 : Shape := ⟨2, ![256, 2304]⟩
abbrev S256x4 : Shape := ⟨2, ![256, 4]⟩
abbrev S256x124 : Shape := ⟨2, ![256, 124]⟩

abbrev nBuf : Space → Nat
  | .hbm => 3
  | .vmem => 6
  | .smem => 0
  | _ => 0

abbrev bufTy : (tb : Table) → Fin (tcTables nBuf tb) → BufTy
  | .hbm, ⟨0, _⟩ => ⟨S2x1024x3076, .f32⟩
  | .hbm, ⟨1, _⟩ => ⟨S1024x3072, .bf16⟩
  | .hbm, ⟨2, _⟩ => ⟨S1024x128, .bf16⟩
  | .local _ .vmem, ⟨0, _⟩ => ⟨S1x256x3076, .f32⟩
  | .local _ .vmem, ⟨1, _⟩ => ⟨S1x256x3076, .f32⟩
  | .local _ .vmem, ⟨2, _⟩ => ⟨S256x3072, .bf16⟩
  | .local _ .vmem, ⟨3, _⟩ => ⟨S256x3072, .bf16⟩
  | .local _ .vmem, ⟨4, _⟩ => ⟨S256x128, .bf16⟩
  | .local _ .vmem, ⟨5, _⟩ => ⟨S256x128, .bf16⟩
  | _, _ => ⟨S2x1024x3076, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x3076 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PackReferenceIdeal.lean ====
abbrev S2x1024x3076 : Shape := ⟨3, ![2, 1024, 3076]⟩
abbrev S1x1024x3076 : Shape := ⟨3, ![1, 1024, 3076]⟩
abbrev S1024x3076 : Shape := ⟨2, ![1024, 3076]⟩
abbrev S1024x768 : Shape := ⟨2, ![1024, 768]⟩
abbrev S1024x4 : Shape := ⟨2, ![1024, 4]⟩
abbrev S1024x2304 : Shape := ⟨2, ![1024, 2304]⟩
abbrev S1024x3072 : Shape := ⟨2, ![1024, 3072]⟩
abbrev S_ : Shape := ⟨0, ![]⟩
abbrev S1024x128 : Shape := ⟨2, ![1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S2x1024x3076, .f32⟩
  | .hbm, ⟨1, _⟩ => ⟨S1x1024x3076, .f32⟩
  | .hbm, ⟨2, _⟩ => ⟨S1024x3076, .f32⟩
  | .hbm, ⟨3, _⟩ => ⟨S1024x768, .f32⟩
  | .hbm, ⟨4, _⟩ => ⟨S1024x4, .f32⟩
  | .hbm, ⟨5, _⟩ => ⟨S1024x2304, .f32⟩
  | .hbm, ⟨6, _⟩ => ⟨S1024x3072, .f32⟩
  | .hbm, ⟨7, _⟩ => ⟨S1024x3072, .bf16⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | _, _ => ⟨S2x1024x3076, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ffn.lean ====
abbrev S16x2048x1024 : Shape := ⟨3, ![16, 2048, 1024]⟩
abbrev S1024x5632 : Shape := ⟨2, ![1024, 5632]⟩
abbrev S3x1x5632 : Shape := ⟨3, ![3, 1, 5632]⟩
abbrev S5632 : Shape := ⟨1, ![5632]⟩
abbrev S2816x1024 : Shape := ⟨2, ![2816, 1024]⟩
abbrev S1024 : Shape := ⟨1, ![1024]⟩
abbrev S3x5632 : Shape := ⟨2, ![3, 5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1x1024 : Shape := ⟨2, ![1, 1024]⟩
abbrev S1x512x1024 : Shape := ⟨3, ![1, 512, 1024]⟩
abbrev S44x8x128 : Shape := ⟨3, ![44, 8, 128]⟩
abbrev S2x4x520x128 : Shape := ⟨4, ![2, 4, 520, 128]⟩
abbrev S2x512x256 : Shape := ⟨3, ![2, 512, 256]⟩
abbrev S512x1024 : Shape := ⟨2, ![512, 1024]⟩
abbrev S1024x256 : Shape := ⟨2, ![1024, 256]⟩
abbrev S512x256 : Shape := ⟨2, ![512, 256]⟩
abbrev S512x128 : Shape := ⟨2, ![512, 128]⟩
abbrev S1x8x128 : Shape := ⟨3, ![1, 8, 128]⟩
abbrev S8x128 : Shape := ⟨2, ![8, 128]⟩
abbrev S1x1x8x128 : Shape := ⟨4, ![1, 1, 8, 128]⟩
abbrev S1x1x512x128 : Shape := ⟨4, ![1, 1, 512, 128]⟩
abbrev S1x128 : Shape := ⟨2, ![1, 128]⟩
abbrev S1x1x64x128 : Shape := ⟨4, ![1, 1, 64, 128]⟩
abbrev S64x128 : Shape := ⟨2, ![64, 128]⟩
abbrev S1x64x128 : Shape := ⟨3, ![1, 64, 128]⟩
abbrev S1x512x256 : Shape := ⟨3, ![1, 512, 256]⟩
abbrev S256x1024 : Shape := ⟨2, ![256, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1024x5632, .f32⟩
  | .hbm, ⟨2, _⟩ => ⟨S3x1x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S3x5632, .f32⟩
  | .hbm, ⟨8, _⟩ => ⟨S1x5632, .f32⟩
  | .hbm, ⟨9, _⟩ => ⟨S_, .f32⟩
  | .hbm, ⟨10, _⟩ => ⟨S4x5632, .f32⟩
  | .hbm, ⟨11, _⟩ => ⟨S8x5632, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x5632, .bf16⟩
  | .local _ .vmem, ⟨3, _⟩ => ⟨S8x5632, .f32⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S44x8x128, .f32⟩
  | .local _ .vmem, ⟨10, _⟩ => ⟨S2x4x520x128, .f32⟩
  | .local _ .vmem, ⟨11, _⟩ => ⟨S2x512x256, .bf16⟩
  | .local _ .vmem, ⟨12, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S16x2048x1024 : Shape := ⟨3, ![16, 2048, 1024]⟩
abbrev S1024x5632 : Shape := ⟨2, ![1024, 5632]⟩
abbrev S3x1x5632 : Shape := ⟨3, ![3, 1, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S16x2048x5632 : Shape := ⟨3, ![16, 2048, 5632]⟩
abbrev S16x2x5632 : Shape := ⟨3, ![16, 2, 5632]⟩
abbrev S16x2050x5632 : Shape := ⟨3, ![16, 2050, 5632]⟩
abbrev S1x1x5632 : Shape := ⟨3, ![1, 1, 5632]⟩
abbrev S16x2048x2816 : Shape := ⟨3, ![16, 2048, 2816]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x5632, .f32⟩
  | .hbm, ⟨2, _⟩ => ⟨S3x1x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S16x2048x1024, .f32⟩
  | .hbm, ⟨9, _⟩ => ⟨S16x2048x1024, .f32⟩
  | .hbm, ⟨10, _⟩ => ⟨S16x2048x5632, .f32⟩
  | .hbm, ⟨11, _⟩ => ⟨S_, .f32⟩
  | .hbm, ⟨12, _⟩ => ⟨S16x2x5632, .f32⟩
  | .hbm, ⟨13, _⟩ => ⟨S16x2050x5632, .f32⟩
  | .hbm, ⟨14, _⟩ => ⟨S1x1x5632, .f32⟩
  | .hbm, ⟨15, _⟩ => ⟨S5632, .f32⟩
  | .hbm, ⟨16, _⟩ => ⟨S16x2048x5632, .f32⟩
  | .hbm, ⟨17, _⟩ => ⟨S1x1x5632, .f32⟩
  | .hbm, ⟨18, _⟩ => ⟨S16x2048x5632, .f32⟩
  | .hbm, ⟨19, _⟩ => ⟨S16x2048x5632, .f32⟩
  | .hbm, ⟨20, _⟩ => ⟨S1x1x5632, .f32⟩
  | .hbm, ⟨21, _⟩ => ⟨S5632, .f32⟩
  | .hbm, ⟨22, _⟩ => ⟨S16x2048x5632, .f32⟩
  | .hbm, ⟨23, _⟩ => ⟨S1x1x5632, .f32⟩
  | .hbm, ⟨24, _⟩ => ⟨S16x2048x5632, .f32⟩
  | .hbm, ⟨25, _⟩ => ⟨S16x2048x5632, .f32⟩
  | .hbm, ⟨26, _⟩ => ⟨S16x2048x5632, .f32⟩
  | .hbm, ⟨27, _⟩ => ⟨S1x1x5632, .f32⟩
  | .hbm, ⟨28, _⟩ => ⟨S5632, .f32⟩
  | .hbm, ⟨29, _⟩ => ⟨S16x2048x5632, .f32⟩
  | .hbm, ⟨30, _⟩ => ⟨S1x1x5632, .f32⟩
  | .hbm, ⟨31, _⟩ => ⟨S16x2048x5632, .f32⟩
  | .hbm, ⟨32, _⟩ => ⟨S16x2048x5632, .f32⟩
  | .hbm, ⟨33, _⟩ => ⟨S16x2048x5632, .f32⟩
  | .hbm, ⟨34, _⟩ => ⟨S1x1x5632, .f32⟩
  | .hbm, ⟨35, _⟩ => ⟨S16x2048x5632, .f32⟩
  | .hbm, ⟨36, _⟩ => ⟨S16x2048x5632, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S_, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S_, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S_, .f32⟩
  | .hbm, ⟨50, _⟩ => ⟨S16x2048x2816, .f32⟩
  | .hbm, ⟨51, _⟩ => ⟨S16x2048x2816, .f32⟩
  | .hbm, ⟨52, _⟩ => ⟨S_, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x2048, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x2048, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x1, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Gates.lean ====
abbrev S16x2048x128 : Shape := ⟨3, ![16, 2048, 128]⟩
abbrev S4 : Shape := ⟨1, ![4]⟩
abbrev S_ : Shape := ⟨0, ![]⟩
abbrev S128 : Shape := ⟨1, ![128]⟩
abbrev S1x128 : Shape := ⟨2, ![1, 128]⟩
abbrev S16x2x2048x256 : Shape := ⟨4, ![16, 2, 2048, 256]⟩
abbrev S16x2048x256 : Shape := ⟨3, ![16, 2048, 256]⟩
abbrev S1x2048x128 : Shape := ⟨3, ![1, 2048, 128]⟩
abbrev S1x2x2048x256 : Shape := ⟨4, ![1, 2, 2048, 256]⟩
abbrev S1x2048x256 : Shape := ⟨3, ![1, 2048, 256]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S1x1x256x128 : Shape := ⟨4, ![1, 1, 256, 128]⟩

abbrev nBuf : Space → Nat
  | .hbm => 8
  | .vmem => 7
  | .smem => 0
  | _ => 0

abbrev bufTy : (tb : Table) → Fin (tcTables nBuf tb) → BufTy
  | .hbm, ⟨0, _⟩ => ⟨S16x2048x128, .f32⟩
  | .hbm, ⟨1, _⟩ => ⟨S4, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S16x2x2048x256, .bf16⟩
  | .hbm, ⟨7, _⟩ => ⟨S16x2048x256, .bf16⟩
  | .local _ .vmem, ⟨0, _⟩ => ⟨S1x2048x128, .f32⟩
  | .local _ .vmem, ⟨1, _⟩ => ⟨S1x2048x128, .f32⟩
  | .local _ .vmem, ⟨2, _⟩ => ⟨S1x128, .f32⟩
  | .local _ .vmem, ⟨3, _⟩ => ⟨S1x2x2048x256, .bf16⟩
  | .local _ .vmem, ⟨4, _⟩ => ⟨S1x2x2048x256, .bf16⟩
  | .local _ .vmem, ⟨5, _⟩ => ⟨S1x2048x256, .bf16⟩
  | .local _ .vmem, ⟨6, _⟩ => ⟨S1x2048x256, .bf16⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesReferenceIdeal.lean ====
abbrev S16x2048x128 : Shape := ⟨3, ![16, 2048, 128]⟩
abbrev S4 : Shape := ⟨1, ![4]⟩
abbrev S16x2048x4 : Shape := ⟨3, ![16, 2048, 4]⟩
abbrev S1x1x4 : Shape := ⟨3, ![1, 1, 4]⟩
abbrev S_ : Shape := ⟨0, ![]⟩
abbrev S16x2048x3 : Shape := ⟨3, ![16, 2048, 3]⟩
abbrev S16x2048x2 : Shape := ⟨3, ![16, 2048, 2]⟩
abbrev S16x2048x6 : Shape := ⟨3, ![16, 2048, 6]⟩
abbrev S16x2048x116 : Shape := ⟨3, ![16, 2048, 116]⟩
abbrev S16x2048x1 : Shape := ⟨3, ![16, 2048, 1]⟩
abbrev S16x2048x256 : Shape := ⟨3, ![16, 2048, 256]⟩
abbrev S16x1x2048x256 : Shape := ⟨4, ![16, 1, 2048, 256]⟩
abbrev S16x2x2048x256 : Shape := ⟨4, ![16, 2, 2048, 256]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S4, .f32⟩
  | .hbm, ⟨2, _⟩ => ⟨S16x2048x4, .f32⟩
  | .hbm, ⟨3, _⟩ => ⟨S1x1x4, .f32⟩
  | .hbm, ⟨4, _⟩ => ⟨S16x2048x4, .f32⟩
  | .hbm, ⟨5, _⟩ => ⟨S16x2048x4, .f32⟩
  | .hbm, ⟨6, _⟩ => ⟨S16x2048x4, .f32⟩
  | .hbm, ⟨7, _⟩ => ⟨S_, .f32⟩
  | .hbm, ⟨8, _⟩ => ⟨S16x2048x4, .f32⟩
  | .hbm, ⟨9, _⟩ => ⟨S16x2048x4, .f32⟩
  | .hbm, ⟨10, _⟩ => ⟨S16x2048x4, .f32⟩
  | .hbm, ⟨11, _⟩ => ⟨S16x2048x4, .f32⟩
  | .hbm, ⟨12, _⟩ => ⟨S16x2048x4, .i1⟩
  | .hbm, ⟨13, _⟩ => ⟨S16x2048x4, .f32⟩
  | .hbm, ⟨14, _⟩ => ⟨S16x2048x4, .f32⟩
  | .hbm, ⟨15, _⟩ => ⟨S16x2048x4, .f32⟩
  | .hbm, ⟨16, _⟩ => ⟨S16x2048x4, .f32⟩
  | .hbm, ⟨17, _⟩ => ⟨S16x2048x4, .f32⟩
  | .hbm, ⟨18, _⟩ => ⟨S16x2048x4, .f32⟩
  | .hbm, ⟨19, _⟩ => ⟨S16x2048x4, .f32⟩
  | .hbm, ⟨20, _⟩ => ⟨S16x2048x4, .f32⟩
  | .hbm, ⟨21, _⟩ => ⟨S16x2048x4, .f32⟩
  | .hbm, ⟨22, _⟩ => ⟨S_, .f32⟩
  | .hbm, ⟨23, _⟩ => ⟨S_, .f32⟩
  | .hbm, ⟨24, _⟩ => ⟨S16x2048x4, .f32⟩
  | .hbm, ⟨25, _⟩ => ⟨S_, .f32⟩
  | .hbm, ⟨26, _⟩ => ⟨S16x2048x3, .f32⟩
  | .hbm, ⟨27, _⟩ => ⟨S_, .f32⟩
  | .hbm, ⟨28, _⟩ => ⟨S16x2048x2, .f32⟩
  | .hbm, ⟨29, _⟩ => ⟨S_, .f32⟩
  | .hbm, ⟨30, _⟩ => ⟨S16x2048x6, .f32⟩
  | .hbm, ⟨31, _⟩ => ⟨S_, .f32⟩
  | .hbm, ⟨32, _⟩ => ⟨S16x2048x116, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x1, .f32⟩
  | .hbm, ⟨37, _⟩ => ⟨S16x2048x256, .f32⟩
  | .hbm, ⟨38, _⟩ => ⟨S16x2048x256, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1, .f32⟩
  | .hbm, ⟨43, _⟩ => ⟨S16x2048x256, .f32⟩
  | .hbm, ⟨44, _⟩ => ⟨S16x1x2048x256, .f32⟩
  | .hbm, ⟨45, _⟩ => ⟨S16x1x2048x256, .f32⟩
  | .hbm, ⟨46, _⟩ => ⟨S16x2x2048x256, .f32⟩
  | .hbm, ⟨47, _⟩ => ⟨S16x2x2048x256, .bf16⟩
  | .hbm, ⟨48, _⟩ => ⟨S16x2048x256, .bf16⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Proof.MixMath.lean ====
module

public import Idealize.ShloMosaic.Lib.Pipeline.ValueKit

@[expose] public section

noncomputable section

/-! The arithmetic of the token mixing block on one row: extended reals only, no program. -/

namespace Cert.Mix

open Idealize.ShloMosaic

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of reals is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem IsR.sum {ι : Type} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

/-- The pattern of 1024. -/
theorem n1024 : Ideal.ofBits .f32 1149239296#32 = ((1024 : ℝ) : EReal) := by
  simp [Ideal.ofBits, Ideal.ieee, -EReal.coe_mul]; norm_num

/-- The pattern of one sixteenth. -/
theorem n16 : Ideal.ofBits .f32 1031798784#32 = ((1 / 16 : ℝ) : EReal) := by
  simp [Ideal.ofBits, Ideal.ieee, -EReal.coe_mul]; norm_num

/-- The pattern of minus infinity. -/
theorem nbot : Ideal.ofBits .f32 4286578688#32 = ⊥ := by
  simp [Ideal.ofBits, Ideal.ieee]

/-- The normalisation's small constant is a positive real. -/
theorem neps : ∃ r : ℝ, 0 < r ∧ Ideal.ofBits .f32 925353388#32 = (r : EReal) := by
  refine ⟨10995116 / 2 ^ 40, by norm_num, ?_⟩
  simp [Ideal.ofBits, Ideal.ieee, -EReal.coe_mul]; norm_num

/-- A positive real factor distributes over a sum of two extended reals. -/
theorem add_mul_real (x y : EReal) {r : ℝ} (hr : 0 ≤ r) : (x + y) * (r : EReal) = x * r + y * r :=
  EReal.right_distrib_of_nonneg_of_ne_top (by exact_mod_cast hr) (EReal.coe_ne_top r) x y

/-- A nonnegative real factor distributes over a finite sum. -/
theorem sum_mul_real {ι : Type} (s : Finset ι) (f : ι → EReal) {r : ℝ} (hr : 0 ≤ r) :
    (∑ i ∈ s, f i) * (r : EReal) = ∑ i ∈ s, f i * r := by
  classical
  induction s using Finset.induction_on with
  | empty => simp
  | insert a s h ih => rw [Finset.sum_insert h, Finset.sum_insert h, add_mul_real _ _ hr, ih]

/-- Division by a nonzero real is multiplication by its inverse. -/
theorem div_real (x : EReal) {r : ℝ} (hr : r ≠ 0) : Ideal.div x (r : EReal) = x * ((r⁻¹ : ℝ) : EReal) := by
  unfold Ideal.div
  rw [if_neg (by exact_mod_cast hr), EReal.coe_inv]

/-! ## The normalisation of a row -/

/-- The mean of a row. -/
def mean (u : Fin 1024 → EReal) : EReal := Ideal.div (∑ k, u k) (Ideal.ofBits .f32 1149239296#32)

/-- A row less `m`, scaled by the reciprocal root of its mean square plus the small constant, then by `g`, plus `b`. -/
def lnAt (m : EReal) (u g b : Fin 1024 → EReal) (k : Fin 1024) : EReal :=
  (u k - m) * Ideal.rsqrt (Ideal.div (∑ x, (u x - m) * (u x - m)) (Ideal.ofBits .f32 1149239296#32)
    + Ideal.ofBits .f32 925353388#32) * g k + b k

/-- Layer normalisation of a row. -/
def lnRow (u g b : Fin 1024 → EReal) (k : Fin 1024) : EReal := lnAt (mean u) u g b k

theorem mul_self_nonneg' (x : EReal) : 0 ≤ x * x := by
  induction x with
  | bot => simp
  | top => simp
  | coe r => rw [← EReal.coe_mul]; exact_mod_cast mul_self_nonneg r

/-- With real gain and offset a normalised row is real, whatever the row holds: an infinite deviation makes the scale
    zero. -/
theorem lnAt_real (m : EReal) (u g b : Fin 1024 → EReal) (hg : ∀ k, IsR (g k)) (hb : ∀ k, IsR (b k)) (k : Fin 1024) :
    IsR (lnAt m u g b k) := by
  obtain ⟨e, he, hee⟩ := neps
  unfold lnAt
  rw [n1024, hee, div_real _ (by norm_num : (1024 : ℝ) ≠ 0)]
  by_cases h : ∀ x, IsR (u x - m)
  · choose d hd using h
    have hs : (∑ x, (u x - m) * (u x - m)) = ((∑ x, d x * d x : ℝ) : EReal) := by
      rw [← coe_sum]; exact Finset.sum_congr rfl fun i _ => by rw [hd i, EReal.coe_mul]
    rw [hs, ← EReal.coe_mul, ← EReal.coe_add]
    have hpos : 0 < (∑ x, d x * d x) * (1024 : ℝ)⁻¹ + e := by
      have : 0 ≤ ∑ x, d x * d x := Finset.sum_nonneg fun i _ => mul_self_nonneg (d i)
      positivity
    generalize (∑ x, d x * d x) * (1024 : ℝ)⁻¹ + e = w at hpos
    have hr : Ideal.rsqrt ((w : ℝ) : EReal) = (((Real.sqrt w)⁻¹ : ℝ) : EReal) := by
      show (if w < 0 then ⊥ else if w = 0 then ⊤ else (((Real.sqrt w)⁻¹ : ℝ) : EReal)) = _
      rw [if_neg (not_lt.mpr hpos.le), if_neg hpos.ne']
    rw [hr]
    exact IsR.add (IsR.mul (IsR.mul ⟨d k, hd k⟩ ⟨_, rfl⟩) (hg k)) (hb k)
  · push Not at h
    obtain ⟨x, hx⟩ := h
    have hsq : (u x - m) * (u x - m) = ⊤ := by
      generalize u x - m = d at hx
      induction d with
      | bot => simp
      | top => simp
      | coe r => exact absurd ⟨r, rfl⟩ hx
    have hs : (∑ x, (u x - m) * (u x - m)) = ⊤ := by
      refine top_le_iff.mp ?_
      rw [← hsq]
      exact Finset.single_le_sum (f := fun x => (u x - m) * (u x - m)) (fun i _ => mul_self_nonneg' _) (Finset.mem_univ x)
    rw [hs, EReal.top_mul_coe_of_pos (by norm_num), EReal.top_add_coe]
    show IsR ((u k - m) * 0 * g k + b k)
    rw [mul_zero, zero_mul, zero_add]
    exact hb k

/-! ## One head of the cross attention -/

/-- The greatest score of a row. -/
def rowMax (s : Fin 256 → EReal) : EReal := Finset.fold max (Ideal.ofBits .f32 4286578688#32) s Finset.univ

/-- The unnormalised weight of a score in its row. -/
def wt (s : Fin 256 → EReal) (t : Fin 256) : EReal := Ideal.exp (s t - rowMax s)

theorem rowMax_eq (s : Fin 256 → EReal) : rowMax s = Finset.univ.sup s := by
  unfold rowMax; rw [nbot]; rfl

/-- Real scores have real weights in `[0, 1]`, whose sum is a positive real. -/
theorem wt_real (s : Fin 256 → EReal) (hs : ∀ t, IsR (s t)) :
    ∃ w : Fin 256 → ℝ, (∀ t, 0 ≤ w t) ∧ (∀ t, wt s t = (w t : EReal)) ∧ 0 < ∑ t, w t := by
  have hm : IsR (rowMax s) := by
    rw [rowMax_eq]
    obtain ⟨t, -, ht⟩ := Finset.exists_mem_eq_sup (Finset.univ : Finset (Fin 256)) ⟨0, Finset.mem_univ 0⟩ s
    rw [ht]; exact hs t
  obtain ⟨a, ha⟩ := hm
  choose r hr using hs
  refine ⟨fun t => Real.exp (r t - a), fun t => (Real.exp_pos _).le, fun t => ?_,
    Finset.sum_pos (fun t _ => Real.exp_pos _) ⟨0, Finset.mem_univ 0⟩⟩
  unfold wt; rw [hr t, ha, ← EReal.coe_sub]; rfl

/-- A head's output with the weights normalised at the end. -/
def headLate (s : Fin 256 → EReal) (v : Fin 256 → EReal) : EReal := (∑ t, wt s t * v t) * Ideal.div 1 (∑ t, wt s t)

/-- A head's output with every weight normalised first. -/
def headEarly (s : Fin 256 → EReal) (v : Fin 256 → EReal) : EReal := ∑ t, v t * Ideal.div (wt s t) (∑ x, wt s x)

/-- Normalising at the end is normalising first, over real scores and any values. -/
theorem head_eq (s v : Fin 256 → EReal) (hs : ∀ t, IsR (s t)) : headLate s v = headEarly s v := by
  obtain ⟨w, hw, hwe, hpos⟩ := wt_real s hs
  unfold headLate headEarly
  have hsum : (∑ t, wt s t) = ((∑ t, w t : ℝ) : EReal) := by
    rw [← coe_sum]; exact Finset.sum_congr rfl fun t _ => hwe t
  rw [hsum, div_real _ hpos.ne', one_mul, sum_mul_real _ _ (inv_nonneg.mpr hpos.le)]
  refine Finset.sum_congr rfl fun t _ => ?_
  rw [div_real _ hpos.ne', mul_comm (wt s t) (v t), mul_assoc]

/-- Scaling the query scales the scores. -/
theorem score_eq (q k : Fin 256 → EReal) :
    (∑ e, q e * Ideal.ofBits .f32 1031798784#32 * k e) = (∑ e, q e * k e) * Ideal.ofBits .f32 1031798784#32 := by
  rw [n16, sum_mul_real _ _ (by norm_num)]
  exact Finset.sum_congr rfl fun e _ => by rw [mul_right_comm]

/-! ## Sums over cut ranges -/

/-- A sum over 1024 is its sums over the cuts at 256 and 512. -/
theorem cut3 (f : Fin 1024 → EReal) :
    (∑ x, f x) = (∑ x : Fin 256, f ⟨x, by omega⟩) + (∑ x : Fin 256, f ⟨256 + x, by omega⟩)
      + ∑ x : Fin 512, f ⟨512 + x, by omega⟩ := by
  refine (Fin.sum_univ_add (a := 256 + 256) (b := 512) f).trans (congrArg₂ (· + ·) ?_ rfl)
  exact Fin.sum_univ_add (a := 256) (b := 256) fun i => f (Fin.castAdd 512 i)

/-- A sum over 1024 is its sums over four cuts of 256. -/
theorem cut4 (f : Fin 1024 → EReal) :
    (∑ x, f x) = (∑ x : Fin 256, f ⟨x, by omega⟩) + (∑ x : Fin 256, f ⟨256 + x, by omega⟩)
      + (∑ x : Fin 256, f ⟨512 + x, by omega⟩) + ∑ x : Fin 256, f ⟨768 + x, by omega⟩ := by
  refine (Fin.sum_univ_add (a := 256 + 256 + 256) (b := 256) f).trans (congrArg₂ (· + ·) ?_ rfl)
  refine (Fin.sum_univ_add (a := 256 + 256) (b := 256) fun i => f (Fin.castAdd 256 i)).trans (congrArg₂ (· + ·) ?_ rfl)
  exact Fin.sum_univ_add (a := 256) (b := 256) fun i => f (Fin.castAdd 256 (Fin.castAdd 256 i))

/-! ## The whole row -/

/-- The residual row: the input scaled, plus the three branches through their rows of the output projection. -/
def mixRow (x : Fin 1024 → EReal) (f d : Fin 256 → EReal) (l : Fin 512 → EReal) (w : Fin 1024 → Fin 1024 → EReal)
    (k : Fin 1024) : EReal :=
  Ideal.ofBits .f32 1068827891#32 * x k + ((∑ e : Fin 256, f e * w ⟨e, by omega⟩ k)
    + (∑ e : Fin 256, d e * w ⟨256 + e, by omega⟩ k) + ∑ e : Fin 512, l e * w ⟨512 + e, by omega⟩ k)

/-- A column of the query projection. -/
def qcol (x : Fin 1024 → EReal) (w : Fin 1024 → Fin 1024 → EReal) (c : Fin 1024) : EReal := ∑ i, x i * w i c

/-- One output column of the head whose columns are `ck` of the query and `kk` of the keys, its values in column `vv`. -/
def hd (ck : Fin 256 → Fin 1024) (kk : Fin 256 → Fin 2048) (q : Fin 1024 → EReal) (kv : Fin 256 → Fin 2048 → EReal)
    (vv : Fin 2048) : EReal :=
  headLate (fun t => ∑ i, q (ck i) * Ideal.ofBits .f32 1031798784#32 * kv t (kk i)) fun t => kv t vv

/-- The attention's row as the kernel orders it, added head by head onto the scaled row `x`. -/
def memK (x : Fin 1024 → EReal) (kv : Fin 256 → Fin 2048 → EReal) (wq wo : Fin 1024 → Fin 1024 → EReal)
    (k : Fin 1024) : EReal :=
  Ideal.ofBits .f32 1068827891#32 * x k
    + (∑ e : Fin 256, hd (fun i => ⟨i, by omega⟩) (fun i => ⟨i, by omega⟩) (qcol x wq) kv ⟨1024 + e, by omega⟩
        * wo ⟨e, by omega⟩ k)
    + (∑ e : Fin 256, hd (fun i => ⟨256 + i, by omega⟩) (fun i => ⟨256 + i, by omega⟩) (qcol x wq) kv
        ⟨1280 + e, by omega⟩ * wo ⟨256 + e, by omega⟩ k)
    + (∑ e : Fin 256, hd (fun i => ⟨512 + i, by omega⟩) (fun i => ⟨512 + i, by omega⟩) (qcol x wq) kv
        ⟨1536 + e, by omega⟩ * wo ⟨512 + e, by omega⟩ k)
    + ∑ e : Fin 256, hd (fun i => ⟨768 + i, by omega⟩) (fun i => ⟨768 + i, by omega⟩) (qcol x wq) kv
        ⟨1792 + e, by omega⟩ * wo ⟨768 + e, by omega⟩ k

/-- Output column `x` of all heads side by side, weights normalised first. -/
def hdR (q : Fin 1024 → EReal) (kv : Fin 256 → Fin 2048 → EReal) (x : Fin 1024) : EReal :=
  headEarly (fun t => (∑ i : Fin 256, q ⟨x / 256 * 256 + i, by omega⟩ * kv t ⟨x / 256 * 256 + i, by omega⟩)
    * Ideal.ofBits .f32 1031798784#32) fun t => kv t ⟨1024 + x, by omega⟩

/-- The attention's row as the problem states it. -/
def memR (x : Fin 1024 → EReal) (kv : Fin 256 → Fin 2048 → EReal) (wq wo : Fin 1024 → Fin 1024 → EReal)
    (k : Fin 1024) : EReal :=
  Ideal.ofBits .f32 1068827891#32 * x k + ∑ c, hdR (qcol x wq) kv c * wo c k

/-- A head of the kernel is the problem's columns of that head, over real queries and keys. -/
theorem hd_eq (ck : Fin 256 → Fin 1024) (kk : Fin 256 → Fin 2048) (q : Fin 1024 → EReal)
    (kv : Fin 256 → Fin 2048 → EReal) (vv : Fin 2048) (x : Fin 1024) (hq : ∀ c, IsR (q c)) (hkv : ∀ t c, IsR (kv t c))
    (hck : ∀ i : Fin 256, (ck i).val = x / 256 * 256 + i) (hkk : ∀ i : Fin 256, (kk i).val = x / 256 * 256 + i)
    (hvv : vv.val = 1024 + x) : hd ck kk q kv vv = hdR q kv x := by
  unfold hd hdR
  rw [head_eq _ _ fun t => IsR.sum _ _ fun i => ((hq _).mul ⟨_, n16⟩).mul (hkv _ _)]
  have hv : vv = ⟨1024 + x, by omega⟩ := Fin.ext hvv
  have hc : ck = fun i => ⟨x / 256 * 256 + i, by omega⟩ := funext fun i => Fin.ext (hck i)
  have hk : kk = fun i => ⟨x / 256 * 256 + i, by omega⟩ := funext fun i => Fin.ext (hkk i)
  rw [hv, hc, hk]
  refine congrArg (fun s => headEarly s _) (funext fun t => ?_)
  exact score_eq (fun i => q ⟨x / 256 * 256 + i, by omega⟩) fun i => kv t ⟨x / 256 * 256 + i, by omega⟩

/-- The two orders of the attention's row agree over real queries and keys. -/
theorem mem_eq (x : Fin 1024 → EReal) (kv : Fin 256 → Fin 2048 → EReal) (wq wo : Fin 1024 → Fin 1024 → EReal)
    (hx : ∀ k, IsR (x k)) (hkv : ∀ t c, IsR (kv t c)) (hwq : ∀ i c, IsR (wq i c)) (k : Fin 1024) :
    memK x kv wq wo k = memR x kv wq wo k := by
  have hq : ∀ c, IsR (qcol x wq c) := fun c => IsR.sum _ _ fun i => (hx i).mul (hwq i c)
  unfold memK memR
  rw [cut4, ← add_assoc, ← add_assoc, ← add_assoc]
  refine congrArg₂ (· + ·) (congrArg₂ (· + ·) (congrArg₂ (· + ·) (congrArg₂ (· + ·) rfl ?_) ?_) ?_) ?_ <;>
    refine Finset.sum_congr rfl fun e _ => congrArg (· * _) (hd_eq _ _ _ _ _ _ hq hkv (fun i => ?_) (fun i => ?_) ?_) <;>
    simp only <;> omega

/-- The kernel's row: normalise the residual row, attend, normalise again. -/
def rowK (x : Fin 1024 → EReal) (f d : Fin 256 → EReal) (l : Fin 512 → EReal) (w : Fin 1024 → Fin 1024 → EReal)
    (g1 b1 : Fin 1024 → EReal) (kv : Fin 256 → Fin 2048 → EReal) (wq wo : Fin 1024 → Fin 1024 → EReal)
    (g2 b2 : Fin 1024 → EReal) (k : Fin 1024) : EReal :=
  lnRow (memK (lnRow (mixRow x f d l w) g1 b1) kv wq wo) g2 b2 k

/-- The problem's row. -/
def rowR (x : Fin 1024 → EReal) (f d : Fin 256 → EReal) (l : Fin 512 → EReal) (w : Fin 1024 → Fin 1024 → EReal)
    (g1 b1 : Fin 1024 → EReal) (kv : Fin 256 → Fin 2048 → EReal) (wq wo : Fin 1024 → Fin 1024 → EReal)
    (g2 b2 : Fin 1024 → EReal) (k : Fin 1024) : EReal :=
  lnRow (memR (lnRow (mixRow x f d l w) g1 b1) kv wq wo) g2 b2 k

/-- The kernel's row is the problem's where the first gain and offset, the keys and values and the query projection are
    real; everything else may be infinite. -/
theorem row_eq (x : Fin 1024 → EReal) (f d : Fin 256 → EReal) (l : Fin 512 → EReal) (w : Fin 1024 → Fin 1024 → EReal)
    (g1 b1 : Fin 1024 → EReal) (kv : Fin 256 → Fin 2048 → EReal) (wq wo : Fin 1024 → Fin 1024 → EReal)
    (g2 b2 : Fin 1024 → EReal) (hg : ∀ k, IsR (g1 k)) (hb : ∀ k, IsR (b1 k)) (hkv : ∀ t c, IsR (kv t c))
    (hwq : ∀ i c, IsR (wq i c)) (k : Fin 1024) :
    rowK x f d l w g1 b1 kv wq wo g2 b2 k = rowR x f d l w g1 b1 kv wq wo g2 b2 k :=
  congrArg (fun u => lnRow u g2 b2 k) (funext fun j => mem_eq _ kv wq wo (fun i => lnAt_real _ _ _ _ hg hb i) hkv hwq j)

/-- Equal rows in, equal rows out. -/
theorem rowK_congr {x x' : Fin 1024 → EReal} {f f' d d' : Fin 256 → EReal} {l l' : Fin 512 → EReal}
    {w w' : Fin 1024 → Fin 1024 → EReal} {g1 g1' b1 b1' : Fin 1024 → EReal} {kv kv' : Fin 256 → Fin 2048 → EReal}
    {wq wq' wo wo' : Fin 1024 → Fin 1024 → EReal} {g2 g2' b2 b2' : Fin 1024 → EReal} {k k' : Fin 1024}
    (hx : ∀ k, x k = x' k) (hf : ∀ k, f k = f' k) (hd : ∀ k, d k = d' k) (hl : ∀ k, l k = l' k)
    (hw : ∀ i j, w i j = w' i j) (hg1 : ∀ k, g1 k = g1' k) (hb1 : ∀ k, b1 k = b1' k) (hkv : ∀ i j, kv i j = kv' i j)
    (hwq : ∀ i j, wq i j = wq' i j) (hwo : ∀ i j, wo i j = wo' i j) (hg2 : ∀ k, g2 k = g2' k) (hb2 : ∀ k, b2 k = b2' k)
    (hk : k = k') : rowK x f d l w g1 b1 kv wq wo g2 b2 k = rowK x' f' d' l' w' g1' b1' kv' wq' wo' g2' b2' k' := by
  obtain rfl := funext hx; obtain rfl := funext hf; obtain rfl := funext hd; obtain rfl := funext hl
  obtain rfl := funext fun i => funext (hw i); obtain rfl := funext hg1; obtain rfl := funext hb1
  obtain rfl := funext fun i => funext (hkv i); obtain rfl := funext fun i => funext (hwq i)
  obtain rfl := funext fun i => funext (hwo i); obtain rfl := funext hg2; obtain rfl := funext hb2
  rw [hk]

end Cert.Mix

end
-- ==== Proof.MixKernel.lean ====
module

public import proofs.«01_k».proof.Proof.Gen.KernelIdeal.Frame
public import proofs.«01_k».proof.Proof.MixMath
public import Idealize.ShloMosaic.Lib.Pipeline.ValueKit

@[expose] public section

set_option maxRecDepth 16384

noncomputable section

/-! What the kernel's body computes, read at an index, as the row functions of `MixMath`. -/

namespace Cert.MixK

open Idealize.ShloMosaic Idealize.ShloMosaic.TcCoe Idealize.SL.Sem
open Cert.KernelIdeal Cert.KernelIdeal.Gen Cert.Mix

section
variable (v21 : FVec Ideal S1024x1024 .f32) (v23 v25 : FVec Ideal S1x1024 .f32) (v29 : FVec Ideal S1024x1 .f32)
  (v47 : Vec Ideal S1024x1024 .bf16) (r k : Fin 1024)

/-- The first normalisation. -/
theorem pay6_at : k0_pay6 v21 v23 v25 v29 (ix2 r k)
    = lnAt (v29 (ix2 r 0)) (fun k => v21 (ix2 r k)) (fun k => v23 (ix2 0 k)) (fun k => v25 (ix2 0 k)) k := by
  pointwise [k0_pay6, lnAt]

/-- The scaled query. -/
theorem pay7_at : k0_pay7 v21 v23 v25 v29 v47 (ix2 r k)
    = (∑ i, k0_pay6 v21 v23 v25 v29 (ix2 r i) * v47 (ix2 i k)) * Ideal.ofBits .f32 1031798784#32 := by
  pointwise [k0_pay7]

/-- The scaled residual. -/
theorem pay8_at : k0_pay8 v21 v23 v25 v29 (ix2 r k)
    = Ideal.ofBits .f32 1068827891#32 * k0_pay6 v21 v23 v25 v29 (ix2 r k) := by
  pointwise [k0_pay8]

/-- Head 0's weights. -/
theorem pay9_at (v56 : Vec Ideal S1x256x256 .bf16) (t : Fin 256) : k0_pay9 v21 v23 v25 v29 v47 v56 (ix2 r t)
    = wt (fun t => ∑ x : Fin 256, k0_pay7 v21 v23 v25 v29 v47 (ix2 r ⟨x, by omega⟩) * v56 (ix3 0 t x)) t := by
  pointwise [k0_pay9, wt, rowMax]

/-- Head 0's weights summed. -/
theorem pay10_at (v56 : Vec Ideal S1x256x256 .bf16) : k0_pay10 v21 v23 v25 v29 v47 v56 (ix2 r 0)
    = ∑ t, k0_pay9 v21 v23 v25 v29 v47 v56 (ix2 r t) := by
  pointwise [k0_pay10]

/-- Head 0's weighted values. -/
theorem pay11_at (v56 v67 : Vec Ideal S1x256x256 .bf16) (e : Fin 256) :
    k0_pay11 v21 v23 v25 v29 v47 v56 v67 (ix2 r e)
    = ∑ t, k0_pay9 v21 v23 v25 v29 v47 v56 (ix2 r t) * v67 (ix3 0 t e) := by
  pointwise [k0_pay11]

/-- The constant one. -/
theorem pay12_at : k0_pay12 (F := Ideal) (ix2 r 0) = (1 : EReal) := by
  pointwise [k0_pay12]

/-- Head 0 normalised and projected, then head 1. -/
theorem pay13_at (v52 : FVec Ideal S1024x1024 .bf16) (v54 : FVec Ideal S1024x1024 .f32) (v65 : FVec Ideal S1024x1 .f32)
    (v69 : FVec Ideal S1024x256 .f32) (v70 : FVec Ideal S1024x1 .f32) (v75 : Vec Ideal S256x1024 .bf16)
    (v80 v91 : Vec Ideal S1x256x256 .bf16) (v99 : Vec Ideal S256x1024 .bf16) :
    k0_pay13 v52 v54 v65 v69 v70 v75 v80 v91 v99 (ix2 r k)
    = v54 (ix2 r k) + (∑ x, v69 (ix2 r x) * Ideal.div (v70 (ix2 r 0)) (v65 (ix2 r 0)) * v75 (ix2 x k))
      + ∑ x, headLate (fun t => ∑ i : Fin 256, v52 (ix2 r ⟨256 + i, by omega⟩) * v80 (ix3 0 t i))
          (fun t => v91 (ix3 0 t x)) * v99 (ix2 x k) := by
  pointwise [k0_pay13, headLate, wt, rowMax]

/-- Head 2's scores. -/
theorem pay14_at (v52 : FVec Ideal S1024x1024 .bf16) (v104 : Vec Ideal S1x256x256 .bf16) (t : Fin 256) :
    k0_pay14 v52 v104 (ix2 r t) = ∑ i : Fin 256, v52 (ix2 r ⟨512 + i, by omega⟩) * v104 (ix3 0 t i) := by
  pointwise [k0_pay14]

/-- Head 2's greatest score. -/
theorem pay15_at (v52 : FVec Ideal S1024x1024 .bf16) (v104 : Vec Ideal S1x256x256 .bf16) :
    k0_pay15 v52 v104 (ix2 r 0) = rowMax fun t => k0_pay14 v52 v104 (ix2 r t) := by
  pointwise [k0_pay15, rowMax]

/-- Head 2 weighed, normalised, projected and added. -/
theorem pay16_at (v102 : FVec Ideal S1024x1024 .f32) (v52 : FVec Ideal S1024x1024 .bf16)
    (v104 v115 : Vec Ideal S1x256x256 .bf16) (v123 : Vec Ideal S256x1024 .bf16) :
    k0_pay16 v102 (k0_pay14 v52 v104) (k0_pay15 v52 v104) v115 v123 (ix2 r k)
    = v102 (ix2 r k) + ∑ x, headLate (fun t => ∑ i : Fin 256, v52 (ix2 r ⟨512 + i, by omega⟩) * v104 (ix3 0 t i))
        (fun t => v115 (ix3 0 t x)) * v123 (ix2 x k) := by
  have h : ∀ t, k0_pay14 v52 v104 (ix2 r t) = ∑ i : Fin 256, v52 (ix2 r ⟨512 + i, by omega⟩) * v104 (ix3 0 t i) :=
    pay14_at r v52 v104
  have h' := pay15_at r v52 v104
  simp only [h] at h'
  pointwise [k0_pay16, headLate, wt]
  simp only [h, h']

/-- Head 3 normalised. -/
theorem pay17_at (v52 : FVec Ideal S1024x1024 .bf16) (v128 v139 : Vec Ideal S1x256x256 .bf16) (e : Fin 256) :
    k0_pay17 v52 v128 v139 (ix2 r e)
    = headLate (fun t => ∑ i : Fin 256, v52 (ix2 r ⟨768 + i, by omega⟩) * v128 (ix3 0 t i))
        (fun t => v139 (ix3 0 t e)) := by
  pointwise [k0_pay17, headLate, wt, rowMax]

/-- Head 3 projected and added, then the second normalisation. -/
theorem pay1_at (v126 : FVec Ideal S1024x1024 .f32) (v146 : FVec Ideal S1024x256 .bf16)
    (v147 : Vec Ideal S256x1024 .bf16) (v151 v153 : Vec Ideal S1x1024 .f32) :
    k0_pay1 v126 v146 v147 v151 v153 (ix3 0 r k)
    = lnRow (fun k => v126 (ix2 r k) + ∑ x, v146 (ix2 r x) * v147 (ix2 x k)) (fun k => v151 (ix2 0 k))
        (fun k => v153 (ix2 0 k)) k := by
  pointwise [k0_pay1, lnRow, lnAt, mean]
end

section
variable (x0 : Vec Ideal S1x1024x1024 .f32) (x1 x2 : Vec Ideal S1x1024x256 .bf16) (x3 : Vec Ideal S1x1024x512 .bf16)
  (x4 : Vec Ideal S1024x1024 .bf16) (x5 x6 : Vec Ideal S1x1024 .f32) (x7 : Vec Ideal S1x256x2048 .bf16)
  (x8 x9 : Vec Ideal S1024x1024 .bf16) (x10 x11 : Vec Ideal S1x1024 .f32) (r k : Fin 1024)

/-- The residual row the body forms from its blocks. -/
theorem pay18_at : k0_pay18 x0 x1 x2 x3 x4 x5 x6 x7 x8 x9 x10 x11 (ix2 r k)
    = mixRow (fun k => x0 (ix3 0 r k)) (fun e => x1 (ix3 0 r e)) (fun e => x2 (ix3 0 r e)) (fun e => x3 (ix3 0 r e))
        (fun i j => x4 (ix2 i j)) k := by
  unfold k0_pay18
  pointwise [k0_pay2, mixRow, r0_1, r0_2, r0_3, r0_4]

/-- Its mean. -/
theorem pay21_at : k0_pay21 x0 x1 x2 x3 x4 x5 x6 x7 x8 x9 x10 x11 (ix2 r 0)
    = mean fun k => k0_pay18 x0 x1 x2 x3 x4 x5 x6 x7 x8 x9 x10 x11 (ix2 r k) := by
  unfold k0_pay21 k0_pay18
  pointwise [k0_pay5, mean]

/-- The normalised row. -/
theorem x1_at : k0_pay6 (k0_pay18 x0 x1 x2 x3 x4 x5 x6 x7 x8 x9 x10 x11) (k0_pay19 x0 x1 x2 x3 x4 x5 x6 x7 x8 x9 x10 x11)
      (k0_pay20 x0 x1 x2 x3 x4 x5 x6 x7 x8 x9 x10 x11) (k0_pay21 x0 x1 x2 x3 x4 x5 x6 x7 x8 x9 x10 x11) (ix2 r k)
    = lnRow (mixRow (fun k => x0 (ix3 0 r k)) (fun e => x1 (ix3 0 r e)) (fun e => x2 (ix3 0 r e))
        (fun e => x3 (ix3 0 r e)) (fun i j => x4 (ix2 i j))) (fun k => x5 (ix2 0 k)) (fun k => x6 (ix2 0 k)) k := by
  rw [pay6_at, pay21_at]
  have h := pay18_at x0 x1 x2 x3 x4 x5 x6 x7 x8 x9 x10 x11 r
  have h5 : ∀ k : Fin 1024, k0_pay19 x0 x1 x2 x3 x4 x5 x6 x7 x8 x9 x10 x11 (ix2 0 k) = x5 (ix2 0 k) := fun k => by
    unfold k0_pay19; pointwise [k0_pay3]
  have h6 : ∀ k : Fin 1024, k0_pay20 x0 x1 x2 x3 x4 x5 x6 x7 x8 x9 x10 x11 (ix2 0 k) = x6 (ix2 0 k) := fun k => by
    unfold k0_pay20; pointwise [k0_pay4]
  simp only [h, h5, h6]
  rfl

/-- The scaled query of the normalised row. -/
theorem q_at : k0_pay7 (k0_pay18 x0 x1 x2 x3 x4 x5 x6 x7 x8 x9 x10 x11) (k0_pay19 x0 x1 x2 x3 x4 x5 x6 x7 x8 x9 x10 x11)
      (k0_pay20 x0 x1 x2 x3 x4 x5 x6 x7 x8 x9 x10 x11) (k0_pay21 x0 x1 x2 x3 x4 x5 x6 x7 x8 x9 x10 x11) x8 (ix2 r k)
    = qcol (lnRow (mixRow (fun k => x0 (ix3 0 r k)) (fun e => x1 (ix3 0 r e)) (fun e => x2 (ix3 0 r e))
        (fun e => x3 (ix3 0 r e)) (fun i j => x4 (ix2 i j))) (fun k => x5 (ix2 0 k)) (fun k => x6 (ix2 0 k)))
        (fun i j => x8 (ix2 i j)) k * Ideal.ofBits .f32 1031798784#32 := by
  rw [pay7_at]
  simp only [x1_at]
  rfl

/-- The same query as the body names it for the later heads. -/
theorem q22_at : k0_pay22 x0 x1 x2 x3 x4 x5 x6 x7 x8 x9 x10 x11 (ix2 r k)
    = k0_pay7 (k0_pay18 x0 x1 x2 x3 x4 x5 x6 x7 x8 x9 x10 x11) (k0_pay19 x0 x1 x2 x3 x4 x5 x6 x7 x8 x9 x10 x11)
      (k0_pay20 x0 x1 x2 x3 x4 x5 x6 x7 x8 x9 x10 x11) (k0_pay21 x0 x1 x2 x3 x4 x5 x6 x7 x8 x9 x10 x11) x8 (ix2 r k) := by
  unfold k0_pay22
  first
  | rfl
  | (rw [pay7_at, pay7_at]; pointwise [r0_0, r0_6, r0_7])

/-- What the body leaves in the result's block, read at an index: the kernel's row. -/
theorem out_at : out0_12 x0 x1 x2 x3 x4 x5 x6 x7 x8 x9 x10 x11 (ix3 0 r k)
    = rowK (fun k => x0 (ix3 0 r k)) (fun e => x1 (ix3 0 r e)) (fun e => x2 (ix3 0 r e)) (fun e => x3 (ix3 0 r e))
        (fun i j => x4 (ix2 i j)) (fun k => x5 (ix2 0 k)) (fun k => x6 (ix2 0 k)) (fun t j => x7 (ix3 0 t j))
        (fun i j => x8 (ix2 i j)) (fun i j => x9 (ix2 i j)) (fun k => x10 (ix2 0 k)) (fun k => x11 (ix2 0 k)) k := by
  frame_out
  rw [pay1_at]
  unfold rowK
  refine congrArg (fun u => lnRow u _ _ k) (funext fun j => ?_)
  simp only [pay16_at, pay17_at, pay13_at, pay12_at, pay10_at, pay11_at, pay9_at, pay8_at, x1_at, q22_at, q_at]
  unfold memK
  simp only [hd, headLate]
  pointwise [r0_1, r0_2, r0_8, r0_9, r0_10, r0_11, r0_12, r0_13, r0_14, r0_15, r0_16, r0_17]
end

end Cert.MixK

end
-- ==== Proof.MixValue.lean ====
module

public import proofs.«01_k».proof.Proof.MixKernel
public import proofs.«01_k».proof.Proof.MixMath
public import Idealize.ShloMosaic.Lib.Pipeline.ValueKit

@[expose] public section

set_option maxRecDepth 16384

noncomputable section

/-! The kernel's result array after the run: every row is the kernel's row of the argument arrays. -/

namespace Cert.MixV

open Idealize.ShloMosaic Idealize.ShloMosaic.TcCoe Idealize.SL.Sem
open Idealize.ShloMosaic.Pipeline (Dat)
open Cert.KernelIdeal Cert.KernelIdeal.Gen Cert.Mix

variable (m : (ℓ : Loc nD τ sig) → Buf (Elt Ideal) ℓ)

/-- The block index of every window at every grid point. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![0, 0] ∧ win0_5.index t = ![0, 0] ∧ win0_6.index t = ![0, 0]
    ∧ win0_7.index t = ![t.val / 2, 0, 0] ∧ win0_8.index t = ![0, 0] ∧ win0_9.index t = ![0, 0]
    ∧ win0_10.index t = ![0, 0] ∧ win0_11.index t = ![0, 0] ∧ win0_12.index t = ![t.val / 2, t.val % 2, 0] :=
  (by decide +kernel : ∀ t : Fin grid0.N, _)

/-- The kernel's result over the argument arrays. -/
def G (X : FVec Ideal S16x2048x1024 .f32) (Fo Di : FVec Ideal S16x2048x256 .bf16) (L : FVec Ideal S16x2048x512 .bf16)
    (W : FVec Ideal S1024x1024 .f32) (g1 b1 : FVec Ideal S1024 .f32) (KV : FVec Ideal S16x256x2048 .bf16)
    (WQ WO : FVec Ideal S1024x1024 .f32) (g2 b2 : FVec Ideal S1024 .f32) : FVec Ideal S16x2048x1024 .f32 := fun i =>
  rowK (fun k => X (ix3 (i 0) (i 1) k)) (fun e => Fo (ix3 (i 0) (i 1) e)) (fun e => Di (ix3 (i 0) (i 1) e))
    (fun e => L (ix3 (i 0) (i 1) e)) (fun i j => W (ix2 i j)) (fun k => g1 (ix1 k)) (fun k => b1 (ix1 k))
    (fun t j => KV (ix3 (i 0) t j)) (fun i j => WQ (ix2 i j)) (fun i j => WO (ix2 i j)) (fun k => g2 (ix1 k))
    (fun k => b2 (ix1 k)) (i 2)

/-- What the body leaves at a block index is the result at the array index the block index sits at. -/
theorem point (c : Dev nD) (t : Fin cfg0.N) (y : S1x1024x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb y) := by
  obtain ⟨r, k, rfl⟩ : ∃ r k : Fin 1024, y = ix3 0 r k := ⟨y 1, y 2, by blk_ext [idx t]⟩
  refine (MixK.out_at _ _ _ _ _ _ _ _ _ _ _ _ r k).trans ?_
  unfold G
  refine rowK_congr (fun k => ?_) (fun k => ?_) (fun k => ?_) (fun k => ?_) (fun i j => ?_) (fun k => ?_) (fun k => ?_)
    (fun i j => ?_) (fun i j => ?_) (fun i j => ?_) (fun k => ?_) (fun k => ?_) ?_
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · refine Fin.ext ?_
    blk_simp [idx t]

/-- The result array after the run. -/
theorem final (c : Dev nD) : (dats m 0 c).arrAt 12 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  exact point m c t y

end Cert.MixV

end
-- ==== Proof.MixRef.lean ====
module

public import proofs.«01_k».proof.Proof.Gen.ReferenceIdeal.Read
public import proofs.«01_k».proof.Proof.MixMath
public import Idealize.ShloMosaic.Lib.Pipeline.ValueKit

@[expose] public section

set_option maxRecDepth 16384

noncomputable section

/-! The reference's stages read at an index, as the row functions of `MixMath`. -/

namespace Cert.MixR

open Idealize.ShloMosaic Idealize.ShloMosaic.TcCoe Idealize.SL.Sem
open Cert.ReferenceIdeal Cert.ReferenceIdeal.Gen Cert.ReferenceIdeal.Read Cert.Mix

variable (x0 : (⟨S16x2048x1024, .f32⟩ : BufTy).Contents (Elt Ideal))
  (x1 x2 : (⟨S16x2048x256, .bf16⟩ : BufTy).Contents (Elt Ideal)) (x3 : (⟨S16x2048x512, .bf16⟩ : BufTy).Contents (Elt Ideal))
  (x4 : (⟨S1024x1024, .f32⟩ : BufTy).Contents (Elt Ideal)) (x5 x6 : (⟨S1024, .f32⟩ : BufTy).Contents (Elt Ideal))
  (x7 : (⟨S16x256x2048, .bf16⟩ : BufTy).Contents (Elt Ideal)) (x8 x9 : (⟨S1024x1024, .f32⟩ : BufTy).Contents (Elt Ideal))
  (x10 x11 : (⟨S1024, .f32⟩ : BufTy).Contents (Elt Ideal)) (b : Fin 16) (s : Fin 2048) (k : Fin 1024)

/-- The residual row. -/
theorem v5_at : val_main_v5 (F := Ideal) x0 x1 x2 x3 x4 (ix3 b s k)
    = mixRow (fun k => x0 (ix3 b s k)) (fun e => x1 (ix3 b s e)) (fun e => x2 (ix3 b s e)) (fun e => x3 (ix3 b s e))
        (fun i j => x4 (ix2 i j)) k := by
  pointwise [val_main_v5, val_main_v4, val_main_v3, val_main_cst, val_main_v2, val_main_v1, val_main_v0]
  rw [cut3]
  unfold mixRow
  refine congrArg₂ (· + ·) rfl (congrArg₂ (· + ·) (congrArg₂ (· + ·) ?_ ?_) ?_) <;>
    refine Finset.sum_congr rfl fun e _ => congrArg (· * _) ?_
  · rw [dif_pos e.2]
  · have h1 : ¬ (256 + (e : ℕ) < 256) := by omega
    have h2 : 256 + (e : ℕ) - 256 = e := by omega
    simp only [h1, h2, dite_false, e.2, dite_true]
  · have h1 : ¬ (512 + (e : ℕ) < 256) := by omega
    have h2 : ¬ (512 + (e : ℕ) - 256 < 256) := by omega
    have h3 : 512 + (e : ℕ) - 256 - 256 = e := by omega
    simp only [h1, h2, h3, dite_false]

/-- The first normalisation. -/
theorem v29_at : val_main_v29 (F := Ideal) x0 x1 x2 x3 x4 x5 x6 (ix3 b s k)
    = lnRow (fun k => val_main_v5 (F := Ideal) x0 x1 x2 x3 x4 (ix3 b s k)) (fun k => x5 (ix1 k)) (fun k => x6 (ix1 k)) k := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0, val_main_cst_1, val_main_cst_2, val_main_cst_3, val_main_cst_4, lnRow, lnAt, mean]

/-- The scaled scores. -/
theorem v41_at (h : Fin 4) (t : Fin 256) : val_main_v41 (F := Ideal) x0 x1 x2 x3 x4 x5 x6 x7 x8 (ix4 b h s t)
    = (∑ x : Fin 256, qcol (fun k => val_main_v29 (F := Ideal) x0 x1 x2 x3 x4 x5 x6 (ix3 b s k)) (fun i j => x8 (ix2 i j))
        ⟨h * 256 + x, by omega⟩ * x7 (ix3 b t ⟨h * 256 + x, by omega⟩)) * Ideal.ofBits .f32 1031798784#32 := by
  pointwise [val_main_v41, val_main_v40, val_main_v39, val_main_v37, val_main_v35, val_main_v34, val_main_v33, val_main_v32, val_main_cst_6, qcol]

/-- The greatest score of a row. -/
theorem v42_at (h : Fin 4) : val_main_v42 (F := Ideal) x0 x1 x2 x3 x4 x5 x6 x7 x8 (ix3 b h s)
    = rowMax fun t => val_main_v41 (F := Ideal) x0 x1 x2 x3 x4 x5 x6 x7 x8 (ix4 b h s t) := by
  unfold val_main_v42
  generalize val_main_v41 (F := Ideal) x0 x1 x2 x3 x4 x5 x6 x7 x8 = X
  pointwise [val_main_cst_7, rowMax]

/-- The greatest score against minus infinity is the greatest score. -/
theorem v44_at (h : Fin 4) : val_main_v44 (F := Ideal) x0 x1 x2 x3 x4 x5 x6 x7 x8 (ix3 b h s)
    = rowMax fun t => val_main_v41 (F := Ideal) x0 x1 x2 x3 x4 x5 x6 x7 x8 (ix4 b h s t) := by
  rw [val_main_v44_apply, ← v42_at x0 x1 x2 x3 x4 x5 x6 x7 x8 b s h, val_main_v43_apply, val_main_cst_8_apply]
  generalize val_main_v42 (F := Ideal) x0 x1 x2 x3 x4 x5 x6 x7 x8 (ix3 b h s) = M
  exact (congrArg (fun z => max z M) nbot).trans (max_eq_right bot_le)

/-- The unnormalised weights. -/
theorem v48_at (h : Fin 4) (t : Fin 256) : val_main_v48 (F := Ideal) x0 x1 x2 x3 x4 x5 x6 x7 x8 (ix4 b h s t)
    = wt (fun t => val_main_v41 (F := Ideal) x0 x1 x2 x3 x4 x5 x6 x7 x8 (ix4 b h s t)) t := by
  unfold wt
  rw [← v44_at x0 x1 x2 x3 x4 x5 x6 x7 x8 b s h]
  unfold val_main_v48 val_main_v47 val_main_v46 val_main_v45
  generalize val_main_v44 (F := Ideal) x0 x1 x2 x3 x4 x5 x6 x7 x8 = M
  generalize val_main_v41 (F := Ideal) x0 x1 x2 x3 x4 x5 x6 x7 x8 = X
  pointwise []

/-- The normalised weights. -/
theorem v52_at (h : Fin 4) (t : Fin 256) : val_main_v52 (F := Ideal) x0 x1 x2 x3 x4 x5 x6 x7 x8 (ix4 b h s t)
    = Ideal.div (val_main_v48 (F := Ideal) x0 x1 x2 x3 x4 x5 x6 x7 x8 (ix4 b h s t))
        (∑ x, val_main_v48 (F := Ideal) x0 x1 x2 x3 x4 x5 x6 x7 x8 (ix4 b h s x)) := by
  pointwise [val_main_v52, val_main_v51, val_main_v50, val_main_v49, val_main_cst_9]

/-- The weighted values. -/
theorem v53_at (h : Fin 4) (e : Fin 256) : val_main_v53 (F := Ideal) x0 x1 x2 x3 x4 x5 x6 x7 x8 (ix4 b h e s)
    = ∑ t, x7 (ix3 b t ⟨1024 + (h * 256 + e), by omega⟩)
        * val_main_v52 (F := Ideal) x0 x1 x2 x3 x4 x5 x6 x7 x8 (ix4 b h s t) := by
  pointwise [val_main_v53, val_main_v38, val_main_v36, val_main_v34]

/-- The heads side by side. -/
theorem v55_at : val_main_v55 (F := Ideal) x0 x1 x2 x3 x4 x5 x6 x7 x8 (ix3 b s k)
    = val_main_v53 (F := Ideal) x0 x1 x2 x3 x4 x5 x6 x7 x8 (ix4 b ⟨k / 256, by omega⟩ ⟨k % 256, by omega⟩ s) := by
  pointwise [val_main_v55, val_main_v54]

/-- The attention's row added to the scaled row. -/
theorem v57_at : val_main_v57 (F := Ideal) x0 x1 x2 x3 x4 x5 x6 x7 x8 x9 (ix3 b s k)
    = Ideal.ofBits .f32 1068827891#32 * val_main_v29 (F := Ideal) x0 x1 x2 x3 x4 x5 x6 (ix3 b s k)
      + ∑ x, val_main_v55 (F := Ideal) x0 x1 x2 x3 x4 x5 x6 x7 x8 (ix3 b s x) * x9 (ix2 x k) := by
  pointwise [val_main_v57, val_main_v56, val_main_v31, val_main_v30, val_main_cst_5]

/-- The second normalisation. -/
theorem v81_at : val_main_v81 (F := Ideal) x0 x1 x2 x3 x4 x5 x6 x7 x8 x9 x10 x11 (ix3 b s k)
    = lnRow (fun k => val_main_v57 (F := Ideal) x0 x1 x2 x3 x4 x5 x6 x7 x8 x9 (ix3 b s k)) (fun k => x10 (ix1 k))
        (fun k => x11 (ix1 k)) k := by
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_cst_10, val_main_cst_11, val_main_cst_12, val_main_cst_13, val_main_cst_14, lnRow, lnAt, mean]

/-- One output column of one head. -/
theorem v55_head : val_main_v55 (F := Ideal) x0 x1 x2 x3 x4 x5 x6 x7 x8 (ix3 b s k)
    = hdR (qcol (fun k => val_main_v29 (F := Ideal) x0 x1 x2 x3 x4 x5 x6 (ix3 b s k)) fun i j => x8 (ix2 i j))
        (fun t j => x7 (ix3 b t j)) k := by
  rw [v55_at, v53_at]
  unfold hdR headEarly
  refine Finset.sum_congr rfl fun t _ => congrArg₂ (· * ·) ?_ ?_
  · have e : 1024 + (k.val / 256 * 256 + k.val % 256) = 1024 + k.val := by omega
    simp only [e]
  · rw [v52_at]
    simp only [v48_at, v41_at]

/-- The reference's result is the problem's row. -/
theorem result_at : val_main_v81 (F := Ideal) x0 x1 x2 x3 x4 x5 x6 x7 x8 x9 x10 x11 (ix3 b s k)
    = rowR (fun k => x0 (ix3 b s k)) (fun e => x1 (ix3 b s e)) (fun e => x2 (ix3 b s e)) (fun e => x3 (ix3 b s e))
        (fun i j => x4 (ix2 i j)) (fun k => x5 (ix1 k)) (fun k => x6 (ix1 k)) (fun t j => x7 (ix3 b t j))
        (fun i j => x8 (ix2 i j)) (fun i j => x9 (ix2 i j)) (fun k => x10 (ix1 k)) (fun k => x11 (ix1 k)) k := by
  rw [v81_at]
  unfold rowR
  refine congrArg (fun u => lnRow u _ _ k) (funext fun j => ?_)
  rw [v57_at]
  have h29 : (fun k => val_main_v29 (F := Ideal) x0 x1 x2 x3 x4 x5 x6 (ix3 b s k))
      = lnRow (mixRow (fun k => x0 (ix3 b s k)) (fun e => x1 (ix3 b s e)) (fun e => x2 (ix3 b s e))
          (fun e => x3 (ix3 b s e)) (fun i j => x4 (ix2 i j))) (fun k => x5 (ix1 k)) (fun k => x6 (ix1 k)) := by
    funext k
    rw [v29_at]
    exact congrArg (fun u => lnRow u _ _ k) (funext fun j => v5_at x0 x1 x2 x3 x4 b s j)
  unfold memR
  refine congrArg₂ (· + ·) (congrArg (_ * ·) (congrFun h29 j)) (Finset.sum_congr rfl fun c _ => congrArg (· * _) ?_)
  rw [v55_head, h29]

end Cert.MixR

end
-- ==== Proof.MixPre.lean ====
module

public import proofs.«01_k».proof.Defs
public import proofs.«01_k».proof.Proof.MixMath
public import Idealize.ShloMosaic.Lib.Pipeline.ValueKit

@[expose] public section

set_option maxRecDepth 16384

noncomputable section

/-! The precondition read: an array below infinity in absolute value holds reals, one above minus infinity holds no minus infinity. -/

namespace Cert.MixPre

open Idealize.ShloMosaic Idealize.ShloMosaic.TcCoe Idealize.SL.Sem
open Cert.Mix

/-- An extended real whose absolute value is below infinity is a real. -/
theorem isR_of_lt (x : EReal) (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- An extended real above minus infinity is not minus infinity. -/
theorem ne_bot_of_gt (x : EReal) (h : Ideal.cmp .ogt x (Ideal.ofBits .f32 0xFF800000#32) = 1#1) : x ≠ ⊥ := by
  have hb : Ideal.ofBits .f32 0xFF800000#32 = ⊥ := by simp [Ideal.ofBits, Ideal.ieee]
  rw [hb] at h
  rintro rfl
  simp [Ideal.cmp] at h

end Cert.MixPre

end
-- ==== Proof.InprojValue.lean ====
module

public import proofs.«01_k».proof.Proof.Gen.InprojIdeal.Frame
public import proofs.«01_k».proof.Proof.Gen.InprojReferenceIdeal.Run
public import proofs.«01_k».proof.Proof.Gen.InprojReferenceIdeal.Read
public import Idealize.ShloMosaic.Lib.Pipeline.ValueKit

@[expose] public section

set_option maxRecDepth 16384

noncomputable section

/-! The input projection: the kernel's two result arrays and the reference's. -/

namespace Cert.InprojV

open Idealize.ShloMosaic Idealize.ShloMosaic.TcCoe Idealize.SL.Sem
open Idealize.ShloMosaic.Pipeline (Dat)
open Cert.InprojIdeal Cert.InprojIdeal.Gen

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- A token's row: token `i` is position `i % 2048` of batch `i / 2048`. -/
def tok (X : FVec Ideal S16x2048x1024 .f32) (i : Fin 32768) (k : Fin 1024) : EReal :=
  X (ix3 ⟨i.val / 2048, by omega⟩ ⟨i.val % 2048, by omega⟩ k)

/-- The projection to queries, keys and values. -/
def G3 (X : FVec Ideal S16x2048x1024 .f32) (W : FVec Ideal S1024x3072 .bf16) : FVec Ideal S32768x3072 .bf16 := fun i =>
  ∑ k : Fin 1024, tok X (i 0) k * W (ix2 k (i 1))

/-- The projection to forget gates. -/
def G4 (X : FVec Ideal S16x2048x1024 .f32) (W : FVec Ideal S1024x128 .bf16) : FVec Ideal S32768x128 .f32 := fun i =>
  ∑ k : Fin 1024, tok X (i 0) k * W (ix2 k (i 1))

/-- One stored column tile. -/
theorem tile_at (x0 : Vec Ideal S512x1024 .f32) (v : Vec Ideal S1024x512 .bf16) (r j : Fin 512) :
    k0_pay4 x0 v (ix2 r j) = ∑ k : Fin 1024, x0 (ix2 r k) * v (ix2 k j) := by
  pointwise [k0_pay4, k0_pay3]

/-- The six stored column tiles are one product. -/
theorem out3_at (x0 : Vec Ideal S512x1024 .f32) (x1 : Vec Ideal S1024x3072 .bf16) (x2 : Vec Ideal S1024x128 .bf16)
    (a : Fin 512) (b : Fin 3072) : out0_3 x0 x1 x2 (ix2 a b) = ∑ k : Fin 1024, x0 (ix2 a k) * x1 (ix2 k b) := by
  canon_tiles x h
  all_goals
    open_payloads
    obtain ⟨r, j, rfl⟩ : ∃ (r : Fin 512) (j : Fin 512), x = ix2 r j := ⟨x 0, x 1, by blk_ext []⟩
    obtain rfl : a = r := Fin.ext h0
    refine (tile_at x0 _ a j).trans (Finset.sum_congr rfl fun k _ => congrArg (x0 (ix2 a k) * ·) ?_)
    rw [View.ld_apply]
    refine congrArg x1 ?_
    refine funext fun q => Fin.ext ?_
    fin_cases q
    · simp [r0_1, r0_3, r0_5, r0_7, r0_9, r0_11]
    · simp [r0_1, r0_3, r0_5, r0_7, r0_9, r0_11]; simp at h1; omega

/-- The forget gates' block. -/
theorem out4_at (x0 : Vec Ideal S512x1024 .f32) (x1 : Vec Ideal S1024x3072 .bf16) (x2 : Vec Ideal S1024x128 .bf16)
    (r : Fin 512) (j : Fin 128) : out0_4 x0 x1 x2 (ix2 r j) = ∑ k : Fin 1024, x0 (ix2 r k) * x2 (ix2 k j) := by
  unfold out0_4
  frame_out
  pointwise [k0_pay2, k0_pay9, k0_pay3]

/-- The flattened tokens read at a token. -/
theorem cast_at (X : FVec Ideal S16x2048x1024 .f32) (i : Fin 32768) (k : Fin 1024) :
    shapeCast S32768x1024 X shapeCasts_S16x2048x1024_S32768x1024 (ix2 i k) = tok X i k := by
  unfold tok
  pointwise []

/-- The tokens' block at a grid point. -/
theorem tok_at (c : Dev nD) (t : Fin cfg0.N) (r : Fin 512) (k : Fin 1024) :
    iblk m c 0 t (ix2 r k) = tok (m ((c : Thread nD τ).loc main_arg0)) ⟨512 * t.val + r.val, by have h : t.val < 64 := t.isLt; omega⟩ k := by
  rw [← cast_at]
  unfold iblk
  have e : V m c (Pipeline.arrRef spec0 0) = shapeCast S32768x1024 (m ((c : Thread nD τ).loc main_arg0)) shapeCasts_S16x2048x1024_S32768x1024 := by
    first
    | rfl
    | (entry_read; rfl)
  rw [e]
  generalize shapeCast S32768x1024 (m ((c : Thread nD τ).loc main_arg0)) shapeCasts_S16x2048x1024_S32768x1024 = Z
  blk_point [idx t]

/-- What the body leaves at a block index of the first result. -/
theorem point3 (c : Dev nD) (t : Fin cfg0.N) (y : S512x3072.Idx) :
    out0_3 (iblk m c 0 t) (iblk m c 1 t) (iblk m c 2 t) y = G3 (m ((c : Thread nD τ).loc main_arg0)) (m ((c : Thread nD τ).loc main_arg1)) (((cfg0.win 3).blk t).view.emb y) := by
  obtain ⟨r, j, rfl⟩ : ∃ (r : Fin 512) (j : Fin 3072), y = ix2 r j := ⟨y 0, y 1, by blk_ext [idx t]⟩
  refine (out3_at _ _ _ r j).trans ?_
  unfold G3
  refine Finset.sum_congr rfl fun k _ => congrArg₂ (· * ·) ((tok_at m c t r k).trans (congrArg (fun i => tok _ i k) (Fin.ext ?_))) ?_
  · blk_simp [idx t]
    exact congrArg (· + r.val) (Nat.mul_comm 512 t.val)
  · blk_point [iblk, V, idx t]

/-- What the body leaves at a block index of the second result. -/
theorem point4 (c : Dev nD) (t : Fin cfg0.N) (y : S512x128.Idx) :
    out0_4 (iblk m c 0 t) (iblk m c 1 t) (iblk m c 2 t) y = G4 (m ((c : Thread nD τ).loc main_arg0)) (m ((c : Thread nD τ).loc main_arg2)) (((cfg0.win 4).blk t).view.emb y) := by
  obtain ⟨r, j, rfl⟩ : ∃ (r : Fin 512) (j : Fin 128), y = ix2 r j := ⟨y 0, y 1, by blk_ext [idx t]⟩
  refine (out4_at _ _ _ r j).trans ?_
  unfold G4
  refine Finset.sum_congr rfl fun k _ => congrArg₂ (· * ·) ((tok_at m c t r k).trans (congrArg (fun i => tok _ i k) (Fin.ext ?_))) ?_
  · blk_simp [idx t]
    exact congrArg (· + r.val) (Nat.mul_comm 512 t.val)
  · blk_point [iblk, V, idx t]

/-- The first result array after the run. -/
theorem final3 (c : Dev nD) : (dats m 0 c).arrAt 3 (cfgs 0).N = G3 (m ((c : Thread nD τ).loc main_arg0)) (m ((c : Thread nD τ).loc main_arg1)) := by
  refine (dats m 0 c).arrAt_eq_of_covers 3 _ (by decide +kernel) fun t _ y => ?_
  blk_simp
  rw [after0_3]
  exact point3 m c t y

/-- The second result array after the run. -/
theorem final4 (c : Dev nD) : (dats m 0 c).arrAt 4 (cfgs 0).N = G4 (m ((c : Thread nD τ).loc main_arg0)) (m ((c : Thread nD τ).loc main_arg2)) := by
  refine (dats m 0 c).arrAt_eq_of_covers 4 _ (by decide +kernel) fun t _ y => ?_
  blk_simp
  rw [after0_4]
  exact point4 m c t y

/-- The reference's first result. -/
theorem ref3_eq (X : FVec Ideal S16x2048x1024 .f32) (W : FVec Ideal S1024x3072 .bf16) :
    Cert.InprojReferenceIdeal.Read.val_main_v3 (F := Ideal) X W = G3 X W := by
  funext i
  obtain ⟨r, j, rfl⟩ : ∃ (r : Fin 32768) (j : Fin 3072), i = ix2 r j := ⟨i 0, i 1, by blk_ext []⟩
  unfold G3 tok
  pointwise [Cert.InprojReferenceIdeal.Read.val_main_v3, Cert.InprojReferenceIdeal.Read.val_main_v2, Cert.InprojReferenceIdeal.Read.val_main_v1, Cert.InprojReferenceIdeal.Read.val_main_v0]

/-- The reference's second result. -/
theorem ref4_eq (X : FVec Ideal S16x2048x1024 .f32) (W : FVec Ideal S1024x128 .bf16) :
    Cert.InprojReferenceIdeal.Read.val_main_v5 (F := Ideal) X W = G4 X W := by
  funext i
  obtain ⟨r, j, rfl⟩ : ∃ (r : Fin 32768) (j : Fin 128), i = ix2 r j := ⟨i 0, i 1, by blk_ext []⟩
  unfold G4 tok
  pointwise [Cert.InprojReferenceIdeal.Read.val_main_v5, Cert.InprojReferenceIdeal.Read.val_main_v4, Cert.InprojReferenceIdeal.Read.val_main_v0]

end Cert.InprojV

end
-- ==== Proof.MemkvValue.lean ====
module

public import proofs.«01_k».proof.Proof.Gen.MemkvIdeal.Frame
public import proofs.«01_k».proof.Proof.Gen.MemkvReferenceIdeal.Run
public import proofs.«01_k».proof.Proof.Gen.MemkvReferenceIdeal.Read
public import Idealize.ShloMosaic.Lib.Pipeline.ValueKit

@[expose] public section

set_option maxRecDepth 16384

noncomputable section

/-! The projection of the memory to keys and values: the kernel's result array and the reference's. -/

namespace Cert.MemkvV

open Idealize.ShloMosaic Idealize.ShloMosaic.TcCoe Idealize.SL.Sem
open Idealize.ShloMosaic.Pipeline (Dat)
open Cert.MemkvIdeal Cert.MemkvIdeal.Gen

variable (m : (ℓ : Loc nD τ sig) → Buf (Elt Ideal) ℓ)

/-- The block index of every window at every grid point. -/
theorem idx : ∀ t : Fin cfg0.N, win0_0.index t = ![t.val, 0, 0] ∧ win0_1.index t = ![0, 0] ∧ win0_2.index t = ![t.val, 0, 0] :=
  (by decide +kernel : ∀ t : Fin grid0.N, _)

/-- The product of the memory and the weight. -/
def G (M : FVec Ideal S16x256x1024 .f32) (W : FVec Ideal S1024x2048 .f32) : FVec Ideal S16x256x2048 .bf16 := fun i =>
  ∑ k : Fin 1024, M (ix3 (i 0) (i 1) k) * W (ix2 k (i 2))

/-- One batch's block of the product. -/
theorem pay_at (v0 : Vec Ideal S1x256x1024 .f32) (v3 : Vec Ideal S1024x2048 .bf16) (r : Fin 256) (j : Fin 2048) :
    k0_pay1 v0 v3 (ix3 0 r j) = ∑ k : Fin 1024, v0 (ix3 0 r k) * v3 (ix2 k j) := by
  pointwise [k0_pay1]

/-- What the body leaves at a block index is the product at the array index the block index sits at. -/
theorem point (c : Dev nD) (t : Fin cfg0.N) (y : S1x256x2048.Idx) :
    out0_2 (iblk m c 0 t) (iblk m c 1 t) y = G (m ((c : Thread nD τ).loc main_arg0)) (m ((c : Thread nD τ).loc main_arg1)) (((cfg0.win 2).blk t).view.emb y) := by
  obtain ⟨r, j, rfl⟩ : ∃ (r : Fin 256) (j : Fin 2048), y = ix3 0 r j := ⟨y 1, y 2, by blk_ext [idx t]⟩
  unfold out0_2 G
  frame_out
  refine (pay_at _ _ r j).trans (Finset.sum_congr rfl fun k _ => congrArg₂ (· * ·) ?_ ?_)
  · blk_point [iblk, V, idx t]
  · blk_point [iblk, V, idx t]

/-- The result array after the run. -/
theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The reference's result. -/
theorem ref_eq (M : FVec Ideal S16x256x1024 .f32) (W : FVec Ideal S1024x2048 .f32) :
    Cert.MemkvReferenceIdeal.Read.val_main_v1 (F := Ideal) M W = G M W := by
  funext i
  obtain ⟨b, r, j, rfl⟩ : ∃ (b : Fin 16) (r : Fin 256) (j : Fin 2048), i = ix3 b r j := ⟨i 0, i 1, i 2, by blk_ext []⟩
  unfold G
  pointwise [Cert.MemkvReferenceIdeal.Read.val_main_v1, Cert.MemkvReferenceIdeal.Read.val_main_v0]

end Cert.MemkvV

end
-- ==== Proof.PackValue.lean ====
module

public import proofs.«01_k».proof.Proof.Gen.PackIdeal.Frame
public import proofs.«01_k».proof.Proof.Gen.PackReferenceIdeal.Run
public import proofs.«01_k».proof.Proof.Gen.PackReferenceIdeal.Read
public import Idealize.ShloMosaic.Lib.Pipeline.ValueKit

@[expose] public section

set_option maxRecDepth 16384

noncomputable section

/-! The packing of the input projection's weight: the kernel's two result arrays and the reference's. -/

namespace Cert.PackV

open Idealize.ShloMosaic Idealize.ShloMosaic.TcCoe Idealize.SL.Sem
open Idealize.ShloMosaic.Pipeline (Dat)
open Cert.PackIdeal Cert.PackIdeal.Gen

variable (m : (ℓ : Loc nD τ sig) → Buf (Elt Ideal) ℓ)

/-- The block index of every window at every grid point. -/
theorem idx : ∀ t : Fin cfg0.N, win0_0.index t = ![0, t.val, 0] ∧ win0_1.index t = ![t.val, 0] ∧ win0_2.index t = ![t.val, 0] :=
  (by decide +kernel : ∀ t : Fin grid0.N, _)

/-- The columns of queries, keys and values, the forget gates' four columns left out. -/
def G1 (W : FVec Ideal S2x1024x3076 .f32) : FVec Ideal S1024x3072 .bf16 := fun i =>
  if h : (i 1).val < 768 then W (ix3 0 (i 0) ⟨(i 1).val, by omega⟩) else W (ix3 0 (i 0) ⟨(i 1).val + 4, by have := (i 1).isLt; simp at this; omega⟩)

/-- The forget gates' four columns, padded with zeros. -/
def G2 (W : FVec Ideal S2x1024x3076 .f32) : FVec Ideal S1024x128 .bf16 := fun i =>
  if h : (i 1).val < 4 then W (ix3 0 (i 0) ⟨768 + (i 1).val, by omega⟩) else 0

/-- The kept columns before the forget gates. -/
theorem pay2_at (v0 : Vec Ideal S1x256x3076 .f32) (r : Fin 256) (j : Fin 768) :
    k0_pay2 v0 (ix2 r j) = v0 (ix3 0 r ⟨j.val, by omega⟩) := by
  pointwise [k0_pay2, k0_pay1]

/-- The kept columns after the forget gates. -/
theorem pay3_at (v0 : Vec Ideal S1x256x3076 .f32) (r : Fin 256) (j : Fin 2304) :
    k0_pay3 v0 (ix2 r j) = v0 (ix3 0 r ⟨772 + j.val, by omega⟩) := by
  pointwise [k0_pay3, k0_pay1]

/-- The forget gates' columns and the zeros after them. -/
theorem pay4_at (v0 : Vec Ideal S1x256x3076 .f32) (r : Fin 256) (j : Fin 128) :
    k0_pay4 v0 (ix2 r j) = if h : j.val < 4 then v0 (ix3 0 r ⟨768 + j.val, by omega⟩) else 0 := by
  pointwise [k0_pay4, k0_pay1]

/-- The first result's block at a grid point. -/
theorem point1 (c : Dev nD) (t : Fin cfg0.N) (y : S256x3072.Idx) :
    (outsAt0 m c t).1 y = G1 (m ((c : Thread nD τ).loc main_arg0)) (((cfg0.win 1).blk t).view.emb y) := by
  obtain ⟨a, b, rfl⟩ : ∃ (a : Fin 256) (b : Fin 3072), y = ix2 a b := ⟨y 0, y 1, by blk_ext [idx t]⟩
  have bt : t.val < 4 := t.isLt
  have e : ((cfg0.win 1).blk t).view.emb (ix2 a b) = ix2 ⟨256 * t.val + a.val, by omega⟩ b := by blk_ext [idx t]
  rw [e]
  clear e
  unfold outsAt0 G1
  frame_out
  canon_tiles x h using (by
    by_cases k : b.val < 768
    · refine ⟨_, List.mem_cons_of_mem _ (List.mem_singleton_self _), (Rect.mem_set_unit (inb := inb_S256x3072_S256x768_0_0)).mpr ?_⟩
      intro q
      fin_cases q
      · exact ⟨Nat.zero_le _, show a.val < 0 + 256 by omega⟩
      · exact ⟨Nat.zero_le _, show b.val < 0 + 768 by omega⟩
    · refine ⟨_, List.mem_cons_self, (Rect.mem_set_unit (inb := inb_S256x3072_S256x2304_0_768)).mpr ?_⟩
      intro q
      fin_cases q
      · exact ⟨Nat.zero_le _, show a.val < 0 + 256 by omega⟩
      · exact ⟨show 768 ≤ b.val by omega, show b.val < 768 + 2304 by omega⟩)
  · obtain ⟨r, j, rfl⟩ : ∃ (r : Fin 256) (j : Fin 2304), x = ix2 r j := ⟨x 0, x 1, by blk_ext []⟩
    have e1 : b.val = 768 + j.val := h1
    have e0 : a.val = r.val := h0
    refine (pay3_at _ r j).trans (Eq.trans ?_ (dif_neg (show ¬ b.val < 768 by omega)).symm)
    blk_point [iblk, V, idx t, e0, e1]
  · obtain ⟨r, j, rfl⟩ : ∃ (r : Fin 256) (j : Fin 768), x = ix2 r j := ⟨x 0, x 1, by blk_ext []⟩
    have e1 : b.val = j.val := h1
    have e0 : a.val = r.val := h0
    refine (pay2_at _ r j).trans (Eq.trans ?_ (dif_pos (show b.val < 768 by omega)).symm)
    blk_point [iblk, V, idx t, e0, e1]

/-- The second result's block at a grid point. -/
theorem point2 (c : Dev nD) (t : Fin cfg0.N) (y : S256x128.Idx) :
    (outsAt0 m c t).2 y = G2 (m ((c : Thread nD τ).loc main_arg0)) (((cfg0.win 2).blk t).view.emb y) := by
  obtain ⟨a, b, rfl⟩ : ∃ (a : Fin 256) (b : Fin 128), y = ix2 a b := ⟨y 0, y 1, by blk_ext [idx t]⟩
  have bt : t.val < 4 := t.isLt
  have e : ((cfg0.win 2).blk t).view.emb (ix2 a b) = ix2 ⟨256 * t.val + a.val, by omega⟩ b := by blk_ext [idx t]
  rw [e]
  clear e
  unfold outsAt0 G2
  frame_out
  refine (pay4_at _ a b).trans ?_
  by_cases hb : b.val < 4
  · refine (dif_pos hb).trans (Eq.trans ?_ (dif_pos (show b.val < 4 from hb)).symm)
    blk_point [iblk, V, idx t]
  · exact (dif_neg hb).trans (dite_eq_right_iff.mpr fun g => absurd g hb).symm

/-- The first result array after the run. -/
theorem final1 (c : Dev nD) : (dats m 0 c).arrAt 1 (cfgs 0).N = G1 (m ((c : Thread nD τ).loc main_arg0)) := by
  refine (dats m 0 c).arrAt_eq_of_covers 1 _ (by decide +kernel) fun t _ y => ?_
  blk_simp
  rw [after0_1]
  exact point1 m c t y

/-- The second result array after the run. -/
theorem final2 (c : Dev nD) : (dats m 0 c).arrAt 2 (cfgs 0).N = G2 (m ((c : Thread nD τ).loc main_arg0)) := by
  refine (dats m 0 c).arrAt_eq_of_covers 2 _ (by decide +kernel) fun t _ y => ?_
  blk_simp
  rw [after0_2]
  exact point2 m c t y

/-- The reference's first result. -/
theorem ref1_eq (W : FVec Ideal S2x1024x3076 .f32) : Cert.PackReferenceIdeal.Read.val_main_v6 (F := Ideal) W = G1 W := by
  funext i
  obtain ⟨r, j, rfl⟩ : ∃ (r : Fin 1024) (j : Fin 3072), i = ix2 r j := ⟨i 0, i 1, by blk_ext []⟩
  unfold G1
  by_cases hj : j.val < 768
  · refine Eq.trans ?_ (dif_pos (show j.val < 768 from hj)).symm
    pointwise [Cert.PackReferenceIdeal.Read.val_main_v0, Cert.PackReferenceIdeal.Read.val_main_v1, Cert.PackReferenceIdeal.Read.val_main_v2, Cert.PackReferenceIdeal.Read.val_main_v3, Cert.PackReferenceIdeal.Read.val_main_v4, Cert.PackReferenceIdeal.Read.val_main_v5, Cert.PackReferenceIdeal.Read.val_main_v6, Cert.PackReferenceIdeal.Read.val_main_c, Cert.PackReferenceIdeal.Read.val_main_call0_v0, hj]
  · refine Eq.trans ?_ (dif_neg (show ¬ j.val < 768 from hj)).symm
    pointwise [Cert.PackReferenceIdeal.Read.val_main_v0, Cert.PackReferenceIdeal.Read.val_main_v1, Cert.PackReferenceIdeal.Read.val_main_v2, Cert.PackReferenceIdeal.Read.val_main_v3, Cert.PackReferenceIdeal.Read.val_main_v4, Cert.PackReferenceIdeal.Read.val_main_v5, Cert.PackReferenceIdeal.Read.val_main_v6, Cert.PackReferenceIdeal.Read.val_main_c, Cert.PackReferenceIdeal.Read.val_main_call0_v0, hj]
    exact congrArg (fun q => W (ix3 0 r q)) (Fin.ext (show 772 + (j.val - 768) = j.val + 4 by omega))

/-- The reference's second result. -/
theorem ref2_eq (W : FVec Ideal S2x1024x3076 .f32) : Cert.PackReferenceIdeal.Read.val_main_v8 (F := Ideal) W = G2 W := by
  funext i
  obtain ⟨r, j, rfl⟩ : ∃ (r : Fin 1024) (j : Fin 128), i = ix2 r j := ⟨i 0, i 1, by blk_ext []⟩
  unfold G2
  by_cases hj : j.val < 4
  · refine Eq.trans ?_ (dif_pos (show j.val < 4 from hj)).symm
    pointwise [Cert.PackReferenceIdeal.Read.val_main_v0, Cert.PackReferenceIdeal.Read.val_main_v1, Cert.PackReferenceIdeal.Read.val_main_v2, Cert.PackReferenceIdeal.Read.val_main_v3, Cert.PackReferenceIdeal.Read.val_main_v4, Cert.PackReferenceIdeal.Read.val_main_c, Cert.PackReferenceIdeal.Read.val_main_call0_v0, Cert.PackReferenceIdeal.Read.val_main_v7, Cert.PackReferenceIdeal.Read.val_main_v8, hj]
  · refine Eq.trans ?_ (dif_neg (show ¬ j.val < 4 from hj)).symm
    pointwise [Cert.PackReferenceIdeal.Read.val_main_v0, Cert.PackReferenceIdeal.Read.val_main_v1, Cert.PackReferenceIdeal.Read.val_main_v2, Cert.PackReferenceIdeal.Read.val_main_v3, Cert.PackReferenceIdeal.Read.val_main_v4, Cert.PackReferenceIdeal.Read.val_main_c, Cert.PackReferenceIdeal.Read.val_main_call0_v0, Cert.PackReferenceIdeal.Read.val_main_v7, Cert.PackReferenceIdeal.Read.val_main_v8, hj]
    first
    | (simp [FloatOps.sitofp]; done)
    | (show (((0#32 : BitVec 32).toInt : ℝ) : EReal) = 0; simp; done)

end Cert.PackV

end
-- ==== Proof.FfnBody.lean ====
module

public import proofs.«01_k».proof.Proof.Gen.FfnIdeal.Frame
public import proofs.«01_k».proof.Proof.MixMath
public import Idealize.ShloMosaic.Lib.Pipeline.ValueKit

@[expose] public section

set_option maxRecDepth 16384

noncomputable section

/-! The feed-forward block on one row tile, over coordinates that are natural numbers, and what one store of the body
    adds to each scratch buffer. -/

namespace Cert.FfnIdeal.Value

open Cert.FfnIdeal Cert.FfnIdeal.Gen
open Idealize.ShloMosaic Idealize.ShloMosaic.TcCoe Idealize.SL.Sem

/-- A matrix read at natural coordinates, zero outside. -/
def at2 {m n : ℕ} (v : (⟨2, ![m, n]⟩ : Shape).Idx → EReal) (a b : ℕ) : EReal :=
  if h : a < m ∧ b < n then v (ix2 ⟨a, h.1⟩ ⟨b, h.2⟩) else 0

/-- A rank-three array read at natural coordinates, zero outside. -/
def at3 {l m n : ℕ} (v : (⟨3, ![l, m, n]⟩ : Shape).Idx → EReal) (a b c : ℕ) : EReal :=
  if h : a < l ∧ b < m ∧ c < n then v (ix3 ⟨a, h.1⟩ ⟨b, h.2.1⟩ ⟨c, h.2.2⟩) else 0

theorem at2_of {m n : ℕ} (v : (⟨2, ![m, n]⟩ : Shape).Idx → EReal) (y : (⟨2, ![m, n]⟩ : Shape).Idx) {a b : ℕ}
    (h0 : (y 0).val = a) (h1 : (y 1).val = b) : v y = at2 v a b := by
  subst h0 h1
  unfold at2
  rw [dif_pos ⟨(y 0).isLt, (y 1).isLt⟩]
  exact congrArg v (funext fun q => by fin_cases q <;> rfl)

theorem at3_of {l m n : ℕ} (v : (⟨3, ![l, m, n]⟩ : Shape).Idx → EReal) (y : (⟨3, ![l, m, n]⟩ : Shape).Idx) {a b c : ℕ}
    (h0 : (y 0).val = a) (h1 : (y 1).val = b) (h2 : (y 2).val = c) : v y = at3 v a b c := by
  subst h0 h1 h2
  unfold at3
  rw [dif_pos ⟨(y 0).isLt, (y 1).isLt, (y 2).isLt⟩]
  exact congrArg v (funext fun q => by fin_cases q <;> rfl)

/-! ## The mathematics of a tile -/

/-- The column of the up-projection that lane `j` of slab `s` of chunk `c` holds. -/
def col (c s j : ℕ) : ℕ := s / 2 * 2816 + 256 * c + s % 2 * 128 + j

/-- The gate's smooth step. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

variable (X W T D : ℕ → ℕ → EReal) (K : ℕ → ℕ → ℕ → EReal)

/-- The up-projection of row `r` at column `n`. -/
def up (r n : ℕ) : EReal := ∑ k : Fin 1024, X r k * W k n

/-- Row `q` of a slab: eight carried rows, then the tile's. -/
def ext (c s q j : ℕ) : EReal := if q < 8 then K (4 * c + s) q j else up X W (q - 8) (col c s j)

/-- The three-tap convolution at row `r`. -/
def conv (c s r j : ℕ) : EReal :=
  T 0 (col c s j) * ext X W K c s (r + 6) j + T 1 (col c s j) * ext X W K c s (r + 7) j
    + T 2 (col c s j) * ext X W K c s (r + 8) j + T 3 (col c s j)

/-- The gated value at row `r`, column `k` of chunk `c`. -/
def glu (c r k : ℕ) : EReal :=
  gelu (conv X W T K c (k / 128) r (k % 128)) * conv X W T K c (2 + k / 128) r (k % 128)

/-- The down-projection of the first `c` chunks added onto the scaled input. -/
def acc : ℕ → ℕ → ℕ → EReal
  | 0, r, j => Ideal.ofBits .f32 0x3FB504F3#32 * X r j
  | c + 1, r, j => acc c r j + ∑ k : Fin 256, glu X W T K c r k * D (256 * c + k) j

/-! ## Stores into a buffer -/

/-- Off its rectangle a store changes nothing. -/
theorem canon_off {S : Shape} {e : EltTy} {off size : Fin S.rank → ℕ} {inb : ∀ a, off a + size a ≤ S.size a}
    {w : (Rect.unit (s := S) off size inb).shape.Idx → Elt Ideal e} {L : List (View.Piece (Elt Ideal) S e)} (y : S.Idx)
    (a : Fin S.rank) (h : (y a).val < off a ∨ off a + size a ≤ (y a).val) :
    View.canon (⟨Rect.unit off size inb, w⟩ :: L) y = View.canon L y := by
  refine View.canon_cons_of_not_mem _ _ fun hm => ?_
  have := (Rect.mem_set_unit (inb := inb)).1 hm a
  omega

/-- Inside its rectangle a store is what the buffer holds. -/
theorem canon_on {S : Shape} {e : EltTy} {off size : Fin S.rank → ℕ} {inb : ∀ a, off a + size a ≤ S.size a}
    {w : (Rect.unit (s := S) off size inb).shape.Idx → Elt Ideal e} {L : List (View.Piece (Elt Ideal) S e)} (y : S.Idx)
    (h : ∀ a, off a ≤ (y a).val ∧ (y a).val < off a + size a) (v : Elt Ideal e)
    (hw : ∀ x : (Rect.unit (s := S) off size inb).shape.Idx, (∀ a, (y a).val = off a + (x a).val) → w x = v) :
    View.canon (⟨Rect.unit off size inb, w⟩ :: L) y = v := by
  obtain ⟨x, rfl⟩ := (Rect.unit off size inb).exists_idx_of_mem ((Rect.mem_set_unit (inb := inb)).2 h)
  exact (View.canon_cons_emb _ w L x).trans (hw x fun a => Rect.idx_unit_val ..)

/-- Slabs `0 … m - 1` of slot `slot` hold chunk `c`. -/
def UAt (L : List (View.Piece (Elt Ideal) S2x4x520x128 .f32)) (slot c m : ℕ) : Prop :=
  ∀ y : S2x4x520x128.Idx, (y 0).val = slot → (y 1).val < m → View.canon L y = ext X W K c (y 1).val (y 2).val (y 3).val

theorem UAt.zero {L : List (View.Piece (Elt Ideal) S2x4x520x128 .f32)} {slot c : ℕ} : UAt X W K L slot c 0 :=
  fun _ _ h => absurd h (Nat.not_lt_zero _)

variable {X W T D K}

/-- A store into the other slot. -/
theorem UAt.skip {L : List (View.Piece (Elt Ideal) S2x4x520x128 .f32)} {slot c m : ℕ} (t s o n : ℕ)
    {inb : ∀ a, (![t, s, o, 0] : Fin 4 → ℕ) a + (![1, 1, n, 128] : Fin 4 → ℕ) a ≤ S2x4x520x128.size a} {w}
    (ht : t ≠ slot) (hL : UAt X W K L slot c m) :
    UAt X W K (⟨Rect.unit (s := S2x4x520x128) ![t, s, o, 0] ![1, 1, n, 128] inb, w⟩ :: L) slot c m := by
  intro y h0 h1
  refine (canon_off (S := S2x4x520x128) y (0 : Fin 4) ?_).trans (hL y h0 h1)
  show (y 0).val < t ∨ t + 1 ≤ (y 0).val
  omega

/-- The two stores that fill slab `s`: the carried rows, then the tile's. -/
theorem UAt.slab {L : List (View.Piece (Elt Ideal) S2x4x520x128 .f32)} {slot c : ℕ} (s : ℕ)
    {inb1 : ∀ a, (![slot, s, 8, 0] : Fin 4 → ℕ) a + S1x1x512x128.size a ≤ S2x4x520x128.size a}
    {inb0 : ∀ a, (![slot, s, 0, 0] : Fin 4 → ℕ) a + S1x1x8x128.size a ≤ S2x4x520x128.size a}
    {w1 : S1x1x512x128.Idx → EReal} {w0 : S1x1x8x128.Idx → EReal}
    (h1 : ∀ x, w1 x = up X W (x 2).val (col c s (x 3).val)) (h0 : ∀ x, w0 x = K (4 * c + s) (x 2).val (x 3).val)
    (hL : UAt X W K L slot c s) :
    UAt X W K (⟨Rect.unit (s := S2x4x520x128) ![slot, s, 8, 0] S1x1x512x128.size inb1, w1⟩
      :: ⟨Rect.unit (s := S2x4x520x128) ![slot, s, 0, 0] S1x1x8x128.size inb0, w0⟩ :: L) slot c (s + 1) := by
  intro y hy0 hy1
  have b2 : (y 2).val < 520 := (y 2).isLt
  have b3 : (y 3).val < 128 := (y 3).isLt
  by_cases hs : (y 1).val = s
  · by_cases h8 : (y 2).val < 8
    · refine (canon_off (S := S2x4x520x128) y (2 : Fin 4) (.inl h8)).trans ?_
      refine canon_on (S := S2x4x520x128) y (fun a => ?_) _ fun x hx => ?_
      · fin_cases a
        · show slot ≤ (y 0).val ∧ (y 0).val < slot + 1; omega
        · show s ≤ (y 1).val ∧ (y 1).val < s + 1; omega
        · show 0 ≤ (y 2).val ∧ (y 2).val < 0 + 8; omega
        · show 0 ≤ (y 3).val ∧ (y 3).val < 0 + 128; omega
      · have e2 : (y 2).val = 0 + (x (2 : Fin 4)).val := hx (2 : Fin 4)
        have e3 : (y 3).val = 0 + (x (3 : Fin 4)).val := hx (3 : Fin 4)
        refine (h0 x).trans ?_
        unfold ext
        rw [if_pos h8, hs, e2, e3, Nat.zero_add, Nat.zero_add]
    · refine canon_on (S := S2x4x520x128) y (fun a => ?_) _ fun x hx => ?_
      · fin_cases a
        · show slot ≤ (y 0).val ∧ (y 0).val < slot + 1; omega
        · show s ≤ (y 1).val ∧ (y 1).val < s + 1; omega
        · show 8 ≤ (y 2).val ∧ (y 2).val < 8 + 512; omega
        · show 0 ≤ (y 3).val ∧ (y 3).val < 0 + 128; omega
      · have e2 : (y 2).val = 8 + (x (2 : Fin 4)).val := hx (2 : Fin 4)
        have e3 : (y 3).val = 0 + (x (3 : Fin 4)).val := hx (3 : Fin 4)
        refine (h1 x).trans ?_
        unfold ext
        rw [if_neg h8, hs, e2, e3, Nat.zero_add, Nat.add_sub_cancel_left]
  · refine (canon_off (S := S2x4x520x128) y (1 : Fin 4) ?_).trans
      ((canon_off (S := S2x4x520x128) y (1 : Fin 4) ?_).trans (hL y hy0 (by omega)))
    · show (y 1).val < s ∨ s + 1 ≤ (y 1).val; omega
    · show (y 1).val < s ∨ s + 1 ≤ (y 1).val; omega

/-- The first `r` rows of slot `slot` hold chunk `c`. -/
def HAt (X W T : ℕ → ℕ → EReal) (K : ℕ → ℕ → ℕ → EReal) (L : List (View.Piece (Elt Ideal) S2x512x256 .bf16)) (slot c r : ℕ) : Prop :=
  ∀ y : S2x512x256.Idx, (y 0).val = slot → (y 1).val < r → View.canon L y = glu X W T K c (y 1).val (y 2).val

theorem HAt.zero {L : List (View.Piece (Elt Ideal) S2x512x256 .bf16)} {slot c : ℕ} : HAt X W T K L slot c 0 :=
  fun _ _ h => absurd h (Nat.not_lt_zero _)

/-- A chunk is gated from its slabs. -/
theorem HAt.of {U : List (View.Piece (Elt Ideal) S2x4x520x128 .f32)} {L : List (View.Piece (Elt Ideal) S2x512x256 .bf16)}
    {slot c : ℕ} (hu : UAt X W K U slot c 4) (h : UAt X W K U slot c 4 → HAt X W T K L slot c 512) : HAt X W T K L slot c 512 := h hu

/-- A strip's value in half `h` of the columns. -/
theorem glu_half {c h r j : ℕ} (hj : j < 128) : glu X W T K c r (128 * h + j)
    = gelu (conv X W T K c h r j) * conv X W T K c (2 + h) r j := by
  unfold glu
  rw [show (128 * h + j) / 128 = h by omega, show (128 * h + j) % 128 = j by omega]

/-- The two stores that fill a strip of 64 rows. -/
theorem HAt.strip {L : List (View.Piece (Elt Ideal) S2x512x256 .bf16)} {slot c : ℕ} (r : ℕ)
    {inb1 : ∀ a, (![slot, r, 128] : Fin 3 → ℕ) a + S1x64x128.size a ≤ S2x512x256.size a}
    {inb0 : ∀ a, (![slot, r, 0] : Fin 3 → ℕ) a + S1x64x128.size a ≤ S2x512x256.size a}
    {w1 w0 : S1x64x128.Idx → EReal}
    (h1 : ∀ x, w1 x = glu X W T K c (r + (x 1).val) (128 * 1 + (x 2).val))
    (h0 : ∀ x, w0 x = glu X W T K c (r + (x 1).val) (128 * 0 + (x 2).val)) (hL : HAt X W T K L slot c r) :
    HAt X W T K (⟨Rect.unit (s := S2x512x256) ![slot, r, 128] S1x64x128.size inb1, w1⟩
      :: ⟨Rect.unit (s := S2x512x256) ![slot, r, 0] S1x64x128.size inb0, w0⟩ :: L) slot c (r + 64) := by
  intro y hy0 hy1
  have b2 : (y 2).val < 256 := (y 2).isLt
  by_cases hr : (y 1).val < r
  · refine (canon_off (S := S2x512x256) y (1 : Fin 3) (.inl hr)).trans
      ((canon_off (S := S2x512x256) y (1 : Fin 3) (.inl hr)).trans (hL y hy0 hr))
  · by_cases h8 : (y 2).val < 128
    · refine (canon_off (S := S2x512x256) y (2 : Fin 3) (.inl h8)).trans ?_
      refine canon_on (S := S2x512x256) y (fun a => ?_) _ fun x hx => ?_
      · fin_cases a
        · show slot ≤ (y 0).val ∧ (y 0).val < slot + 1; omega
        · show r ≤ (y 1).val ∧ (y 1).val < r + 64; omega
        · show 0 ≤ (y 2).val ∧ (y 2).val < 0 + 128; omega
      · have e1 : (y 1).val = r + (x (1 : Fin 3)).val := hx (1 : Fin 3)
        have e2 : (y 2).val = 0 + (x (2 : Fin 3)).val := hx (2 : Fin 3)
        refine (h0 x).trans ?_
        rw [e1, e2, Nat.mul_zero]
    · refine canon_on (S := S2x512x256) y (fun a => ?_) _ fun x hx => ?_
      · fin_cases a
        · show slot ≤ (y 0).val ∧ (y 0).val < slot + 1; omega
        · show r ≤ (y 1).val ∧ (y 1).val < r + 64; omega
        · show 128 ≤ (y 2).val ∧ (y 2).val < 128 + 128; omega
      · have e1 : (y 1).val = r + (x (1 : Fin 3)).val := hx (1 : Fin 3)
        have e2 : (y 2).val = 128 + (x (2 : Fin 3)).val := hx (2 : Fin 3)
        refine (h1 x).trans ?_
        rw [e1, e2, Nat.mul_one]

/-- The accumulator holds the first `c` chunks. -/
def AccAt (X W T D : ℕ → ℕ → EReal) (K : ℕ → ℕ → ℕ → EReal) (L : List (View.Piece (Elt Ideal) S512x1024 .f32)) (c : ℕ) : Prop :=
  ∀ y : S512x1024.Idx, View.canon L y = acc X W T D K c (y 0).val (y 1).val

/-- A store over the whole accumulator. -/
theorem AccAt.whole {L : List (View.Piece (Elt Ideal) S512x1024 .f32)} {c : ℕ}
    {inb : ∀ a, (![0, 0] : Fin 2 → ℕ) a + S512x1024.size a ≤ S512x1024.size a} {w : S512x1024.Idx → EReal}
    (h : ∀ x, w x = acc X W T D K c (x 0).val (x 1).val) :
    AccAt X W T D K (⟨Rect.unit (s := S512x1024) ![0, 0] S512x1024.size inb, w⟩ :: L) c := by
  intro y
  rw [View.canon_cons_unit_zero (S := S512x1024) (funext fun a => by fin_cases a <;> rfl)]
  exact h y

/-- The carried rows of the first `m` slabs are the last eight of the tile. -/
def CAt (X W : ℕ → ℕ → EReal) (L : List (View.Piece (Elt Ideal) S44x8x128 .f32)) (m : ℕ) : Prop :=
  ∀ y : S44x8x128.Idx, (y 0).val < m →
    View.canon L y = up X W (504 + (y 1).val) (col ((y 0).val / 4) ((y 0).val % 4) (y 2).val)

theorem CAt.zero {L : List (View.Piece (Elt Ideal) S44x8x128 .f32)} : CAt X W L 0 :=
  fun _ h => absurd h (Nat.not_lt_zero _)

/-- The store of one slab's last eight rows. -/
theorem CAt.slab {L : List (View.Piece (Elt Ideal) S44x8x128 .f32)} (s : ℕ)
    {inb : ∀ a, (![s, 0, 0] : Fin 3 → ℕ) a + S1x8x128.size a ≤ S44x8x128.size a} {w : S1x8x128.Idx → EReal}
    (h : ∀ x, w x = up X W (504 + (x 1).val) (col (s / 4) (s % 4) (x 2).val)) (hL : CAt X W L s) :
    CAt X W (⟨Rect.unit (s := S44x8x128) ![s, 0, 0] S1x8x128.size inb, w⟩ :: L) (s + 1) := by
  intro y hy
  have b1 : (y 1).val < 8 := (y 1).isLt
  have b2 : (y 2).val < 128 := (y 2).isLt
  by_cases hs : (y 0).val = s
  · refine canon_on (S := S44x8x128) y (fun a => ?_) _ fun x hx => ?_
    · fin_cases a
      · show s ≤ (y 0).val ∧ (y 0).val < s + 1; omega
      · show 0 ≤ (y 1).val ∧ (y 1).val < 0 + 8; omega
      · show 0 ≤ (y 2).val ∧ (y 2).val < 0 + 128; omega
    · have e1 : (y 1).val = 0 + (x (1 : Fin 3)).val := hx (1 : Fin 3)
      have e2 : (y 2).val = 0 + (x (2 : Fin 3)).val := hx (2 : Fin 3)
      refine (h x).trans ?_
      rw [e1, e2, hs, Nat.zero_add, Nat.zero_add]
  · refine (canon_off (S := S44x8x128) y (0 : Fin 3) ?_).trans (hL y (by omega))
    show (y 0).val < s ∨ s + 1 ≤ (y 0).val; omega

/-- The carried rows from slab `m` on are still the zeros of the batch's first tile. -/
def ZAt (L : List (View.Piece (Elt Ideal) S44x8x128 .f32)) (m : ℕ) : Prop :=
  ∀ y : S44x8x128.Idx, m ≤ (y 0).val → View.canon L y = (0 : EReal)

theorem ZAt.fill {L : List (View.Piece (Elt Ideal) S44x8x128 .f32)}
    {inb : ∀ a, (![0, 0, 0] : Fin 3 → ℕ) a + S44x8x128.size a ≤ S44x8x128.size a} :
    ZAt (⟨Rect.unit (s := S44x8x128) ![0, 0, 0] S44x8x128.size inb, k0_pay1 (F := Ideal)⟩ :: L) 0 := by
  intro y _
  rw [View.canon_cons_unit_zero (S := S44x8x128) (funext fun a => by fin_cases a <;> rfl)]
  pointwise [k0_pay1]

/-- The store of an earlier slab. -/
theorem ZAt.slab {L : List (View.Piece (Elt Ideal) S44x8x128 .f32)} (s : ℕ)
    {inb : ∀ a, (![s, 0, 0] : Fin 3 → ℕ) a + S1x8x128.size a ≤ S44x8x128.size a} {w : S1x8x128.Idx → EReal}
    (hL : ZAt L s) : ZAt (⟨Rect.unit (s := S44x8x128) ![s, 0, 0] S1x8x128.size inb, w⟩ :: L) (s + 1) := by
  intro y hy
  refine (canon_off (S := S44x8x128) y (0 : Fin 3) ?_).trans (hL y (by omega))
  show (y 0).val < s ∨ s + 1 ≤ (y 0).val; omega

/-! ## What is loaded -/

/-- Sixty-four rows of a slab. -/
theorem u_load {L : List (View.Piece (Elt Ideal) S2x4x520x128 .f32)} {slot c : ℕ} (hu : UAt X W K L slot c 4) (s o : ℕ)
    (v : View sig .tc .vmem S2x4x520x128 .f32) {i} (hs : s < 4) (a : Fin 64) (b : Fin 128) :
    v.readCov L (Rect.unit (s := S2x4x520x128) ![slot, s, o, 0] S1x1x64x128.size i).toLoadRect (ix4 0 0 a b)
      = ext X W K c s (o + a) b := by
  rw [View.readCov_eq_canon']
  refine (hu _ ?_ ?_).trans ?_
  · exact (Rect.idx_unit_val ..).trans (Nat.add_zero _)
  · exact ((Rect.idx_unit_val ..).trans (Nat.add_zero _)).trans_lt hs
  · congr 1
    · exact Rect.idx_unit_val ..
    · exact (Rect.idx_unit_val ..).trans (Nat.zero_add _)

/-- A slot of gated values. -/
theorem h_load {L : List (View.Piece (Elt Ideal) S2x512x256 .bf16)} {slot c : ℕ} (hh : HAt X W T K L slot c 512)
    (v : View sig .tc .vmem S2x512x256 .bf16) {i} (a : Fin 512) (b : Fin 256) :
    v.readCov L (Rect.unit (s := S2x512x256) ![slot, 0, 0] S1x512x256.size i).toLoadRect (ix3 0 a b)
      = glu X W T K c a b := by
  rw [View.readCov_eq_canon']
  refine (hh _ ?_ ?_).trans ?_
  · exact (Rect.idx_unit_val ..).trans (Nat.add_zero _)
  · exact ((Rect.idx_unit_val ..).trans (Nat.zero_add _)).trans_lt a.isLt
  · congr 1
    · exact (Rect.idx_unit_val ..).trans (Nat.zero_add _)
    · exact (Rect.idx_unit_val ..).trans (Nat.zero_add _)

/-- The accumulator. -/
theorem acc_load {L : List (View.Piece (Elt Ideal) S512x1024 .f32)} {c : ℕ} (hL : AccAt X W T D K L c)
    (v : View sig .tc .vmem S512x1024 .f32) {i} (x : S512x1024.Idx) :
    v.readCov L (Rect.unit (s := S512x1024) ![0, 0] S512x1024.size i).toLoadRect x = acc X W T D K c (x 0).val (x 1).val := by
  rw [View.readCov_eq_canon']
  refine (hL _).trans ?_
  congr 1
  · exact (Rect.idx_unit_val ..).trans (Nat.zero_add _)
  · exact (Rect.idx_unit_val ..).trans (Nat.zero_add _)

/-- The carried rows of a slab, still zero. -/
theorem zero_load {L : List (View.Piece (Elt Ideal) S44x8x128 .f32)} {n : ℕ} (hL : ZAt L n)
    (v : View sig .tc .vmem S44x8x128 .f32) {i} (q : Fin 8) (j : Fin 128) :
    v.readCov L (Rect.unit (s := S44x8x128) ![n, 0, 0] S1x8x128.size i).toLoadRect (ix3 0 q j) = (0 : EReal) := by
  rw [View.readCov_eq_canon']
  exact hL _ (le_of_eq (show _ = n from (Rect.idx_unit_val ..).trans (Nat.add_zero _)).symm)

/-- The carried rows of a slab, as the tile before left them. -/
theorem carry_load (a : Memref sig .tc .vmem S44x8x128 .f32) (h : a.IsWhole) (xs : Vec Ideal S44x8x128 .f32) (n : ℕ) {i}
    (q : Fin 8) (j : Fin 128) :
    View.readAt (Elt Ideal) a.view (Rect.unit (s := S44x8x128) ![n, 0, 0] S1x8x128.size i).toLoadRect (h.unread xs)
      (ix3 0 q j) = at3 xs n q j := by
  rw [View.readAt_eq_ld, h.read_unread, View.ld_apply]
  refine at3_of xs _ ?_ ?_ ?_
  · exact (Rect.idx_unit_val ..).trans (Nat.add_zero _)
  · exact (Rect.idx_unit_val ..).trans (Nat.zero_add _)
  · exact (Rect.idx_unit_val ..).trans (Nat.zero_add _)

/-- The rows of the tile. -/
theorem x_load (a : Memref sig .tc .vmem S1x512x1024 .f32) (h : a.IsWhole) (x : Vec Ideal S1x512x1024 .f32) {i}
    (r : Fin 512) (k : Fin 1024) :
    View.readAt (Elt Ideal) a.view (Rect.unit (s := S1x512x1024) ![0, 0, 0] S1x512x1024.size i).toLoadRect (h.unread x)
      (ix3 0 r k) = at3 x 0 r k := by
  rw [View.readAt_eq_ld, h.read_unread, View.ld_apply]
  refine at3_of x _ ?_ ?_ ?_
  · rfl
  · exact (Rect.idx_unit_val ..).trans (Nat.zero_add _)
  · exact (Rect.idx_unit_val ..).trans (Nat.zero_add _)

/-- A rectangle of a matrix, read at an index. -/
theorem mat_load {m n p q : ℕ} {e : EltTy} (a : Memref sig .tc .vmem ⟨2, ![m, n]⟩ e) (h : a.IsWhole)
    (x : Vec Ideal ⟨2, ![m, n]⟩ e) (o o' : ℕ) {i} (r : Fin p) (k : Fin q) :
    View.readAt (Elt Ideal) a.view (Rect.unit (s := ⟨2, ![m, n]⟩) ![o, o'] ![p, q] i).toLoadRect (h.unread x) (ix2 r k)
      = x ((Rect.unit (s := ⟨2, ![m, n]⟩) ![o, o'] ![p, q] i).idx (ix2 r k)) := by
  rw [View.readAt_eq_ld, h.read_unread, View.ld_apply]

/-- Columns of the up-projection's weights. -/
theorem w_load (a : Memref sig .tc .vmem S1024x5632 .bf16) (h : a.IsWhole) (x : Vec Ideal S1024x5632 .bf16) (o n : ℕ) {i} (ho : o = n) (k : Fin 1024) (j : Fin 256) :
    shapeCast (s := S1024x256) S1024x256 (View.readAt (Elt Ideal) a.view (Rect.unit (s := S1024x5632) ![0, o] S1024x256.size i).toLoadRect
      (h.unread x)) (by decide) (ix2 k j) = at2 x k (n + j) := by
  subst ho
  refine (congrFun (shapeCast_self ..) _).trans ?_
  exact (mat_load a h x 0 o k j).trans (at2_of _ _ ((Rect.idx_unit_val ..).trans (Nat.zero_add _)) (Rect.idx_unit_val ..))

/-- Columns of the taps. -/
theorem t_load (a : Memref sig .tc .vmem S8x5632 .f32) (h : a.IsWhole) (x : Vec Ideal S8x5632 .f32) (o c s : ℕ) {i} (ho : o = col c s 0) (k : Fin 8) (j : Fin 128) :
    shapeCast (s := S8x128) S8x128 (View.readAt (Elt Ideal) a.view (Rect.unit (s := S8x5632) ![0, o] S8x128.size i).toLoadRect
      (h.unread x)) (by decide) (ix2 k j) = at2 x k (col c s j) := by
  subst ho
  refine (congrFun (shapeCast_self ..) _).trans ?_
  exact (mat_load a h x 0 _ k j).trans (at2_of _ _ ((Rect.idx_unit_val ..).trans (Nat.zero_add _)) (Rect.idx_unit_val ..))

/-- Rows of the down-projection's weights. -/
theorem d_load (a : Memref sig .tc .vmem S2816x1024 .bf16) (h : a.IsWhole) (x : Vec Ideal S2816x1024 .bf16) (o n : ℕ) {i} (ho : o = n) (k : Fin 256) (j : Fin 1024) :
    shapeCast (s := S256x1024) S256x1024 (View.readAt (Elt Ideal) a.view (Rect.unit (s := S2816x1024) ![o, 0] S256x1024.size i).toLoadRect
      (h.unread x)) (by decide) (ix2 k j) = at2 x (n + k) j := by
  subst ho
  refine (congrFun (shapeCast_self ..) _).trans ?_
  exact (mat_load a h x o 0 k j).trans (at2_of _ _ (Rect.idx_unit_val ..) ((Rect.idx_unit_val ..).trans (Nat.zero_add _)))

/-! ## What is stored -/

/-- The tile's rows in the matrix unit's format. -/
theorem x_piece {v : Vec Ideal S1x512x1024 .f32} (hv : ∀ r k, v (ix3 0 r k) = X r k) (r : Fin 512) (k : Fin 1024) :
    k0_pay3 v (ix2 r k) = X r k := by
  rw [← hv r k]
  pointwise [k0_pay3, k0_pay2]

/-- The accumulator's first contents. -/
theorem acc_first {v : Vec Ideal S1x512x1024 .f32} (hv : ∀ r k, v (ix3 0 r k) = X r k) (x : S512x1024.Idx) :
    k0_pay4 v x = acc X W T D K 0 (x 0).val (x 1).val := by
  obtain ⟨r, j, rfl⟩ : ∃ (r : Fin 512) (j : Fin 1024), x = ix2 r j := ⟨x 0, x 1, by blk_ext []⟩
  refine Eq.trans ?_ (congrArg (Ideal.ofBits .f32 0x3FB504F3#32 * ·) (hv r j))
  pointwise [k0_pay4, k0_pay2]

/-- Columns of the up-projection. -/
theorem up_at {xb : FVec Ideal S512x1024 .bf16} {w : FVec Ideal S1024x256 .bf16} {n : ℕ}
    (hx : ∀ r k, xb (ix2 r k) = X r k) (hw : ∀ k j, w (ix2 k j) = W k (n + j)) (r : Fin 512) (j : Fin 256) :
    matmul dot_S512x1024_S1024x256_S512x256_1_0_0_1_n_n none xb w (constant S512x256 .f32 0x00000000#32) (ix2 r j)
      = up X W r (n + j) := by
  unfold up
  simp only [← hx, ← hw]
  pointwise []

/-- Half of a chunk's columns lies in the chunk. -/
theorem half_slices {o s : ℕ} (ho : o = s % 2 * 128) : S512x256.Slices ![0, o] S512x128 := by
  rcases Nat.mod_two_eq_zero_or_one s with h | h
  · obtain rfl : o = 0 := by omega
    decide
  · obtain rfl : o = 128 := by omega
    decide

/-- The tile's rows of one slab. -/
theorem up_piece {xb : FVec Ideal S512x1024 .bf16} {w : FVec Ideal S1024x256 .bf16} {c s : ℕ} (o : ℕ)
    (hx : ∀ r k, xb (ix2 r k) = X r k) (hw : ∀ k j, w (ix2 k j) = W k (s / 2 * 2816 + 256 * c + j))
    (ho : o = s % 2 * 128) (x : S1x1x512x128.Idx) :
    shapeCast S1x1x512x128 (extractStridedSlice S512x128 ![0, o]
      (matmul dot_S512x1024_S1024x256_S512x256_1_0_0_1_n_n none xb w (constant S512x256 .f32 0x00000000#32)) (half_slices ho)) (by decide) x
      = up X W (x 2).val (col c s (x 3).val) := by
  obtain ⟨a, b, r, j, rfl⟩ : ∃ (a b : Fin 1) (r : Fin 512) (j : Fin 128), x = ix4 a b r j := ⟨x 0, x 1, x 2, x 3, by blk_ext []⟩
  have hu := fun r j => up_at hx hw r j
  generalize matmul dot_S512x1024_S1024x256_S512x256_1_0_0_1_n_n none xb w (constant S512x256 .f32 0x00000000#32) = u at hu
  have e := hu r ⟨o + j, by omega⟩
  refine Eq.trans ?_ (e.trans (congrArg (up X W r) ?_))
  · pointwise []
  · show s / 2 * 2816 + 256 * c + (o + j) = s / 2 * 2816 + 256 * c + s % 2 * 128 + j
    omega

/-- The last eight rows of one slab. -/
theorem last_piece {xb : FVec Ideal S512x1024 .bf16} {w : FVec Ideal S1024x256 .bf16} {c s : ℕ} (o : ℕ)
    (hx : ∀ r k, xb (ix2 r k) = X r k) (hw : ∀ k j, w (ix2 k j) = W k (s / 2 * 2816 + 256 * c + j))
    (ho : o = s % 2 * 128) (x : S1x8x128.Idx) :
    shapeCast S1x8x128 (extractStridedSlice S8x128 ![504, 0] (extractStridedSlice S512x128 ![0, o]
      (matmul dot_S512x1024_S1024x256_S512x256_1_0_0_1_n_n none xb w (constant S512x256 .f32 0x00000000#32)) (half_slices ho)) (by decide)) (by decide) x
      = up X W (504 + (x 1).val) (col c s (x 2).val) := by
  obtain ⟨a, r, j, rfl⟩ : ∃ (a : Fin 1) (r : Fin 8) (j : Fin 128), x = ix3 a r j := ⟨x 0, x 1, x 2, by blk_ext []⟩
  have hu := fun r j => up_at hx hw r j
  generalize matmul dot_S512x1024_S1024x256_S512x256_1_0_0_1_n_n none xb w (constant S512x256 .f32 0x00000000#32) = u at hu
  have e := hu ⟨504 + r, by omega⟩ ⟨o + j, by omega⟩
  refine Eq.trans ?_ (e.trans (congrArg (up X W (504 + r)) ?_))
  · pointwise []
  · show s / 2 * 2816 + 256 * c + (o + j) = s / 2 * 2816 + 256 * c + s % 2 * 128 + j
    omega

/-- The carried rows as they are copied in front of the tile's. -/
theorem carry_piece {v : Vec Ideal S1x8x128 .f32} {n : ℕ}
    (hv : ∀ q j, v (ix3 0 q j) = K n q j) (x : S1x1x8x128.Idx) :
    shapeCast S1x1x8x128 (shapeCast S8x128 v (by decide)) (by decide) x = K n (x 2).val (x 3).val := by
  obtain ⟨a, b, r, j, rfl⟩ : ∃ (a b : Fin 1) (r : Fin 8) (j : Fin 128), x = ix4 a b r j := ⟨x 0, x 1, x 2, x 3, by blk_ext []⟩
  refine Eq.trans ?_ (hv r j)
  pointwise []

/-- One strip of a slab through the convolution. -/
theorem conv_piece {c s r : ℕ} {t : FVec Ideal S8x128 .f32} {l0 l1 l2 : Vec Ideal S1x1x64x128 .f32}
    (ht : ∀ i j, t (ix2 i j) = T i (col c s j))
    (e0 : ∀ a b, l0 (ix4 0 0 a b) = ext X W K c s (r + 6 + a) b) (e1 : ∀ a b, l1 (ix4 0 0 a b) = ext X W K c s (r + 7 + a) b)
    (e2 : ∀ a b, l2 (ix4 0 0 a b) = ext X W K c s (r + 8 + a) b) (a : Fin 64) (b : Fin 128) :
    addf (addf (addf (mulf (broadcastTo S64x128 (extractStridedSlice S1x128 ![0, 0] t (by decide)) (by decide)) (shapeCast S64x128 l0 (by decide)))
      (mulf (broadcastTo S64x128 (extractStridedSlice S1x128 ![1, 0] t (by decide)) (by decide)) (shapeCast S64x128 l1 (by decide))))
      (mulf (broadcastTo S64x128 (extractStridedSlice S1x128 ![2, 0] t (by decide)) (by decide)) (shapeCast S64x128 l2 (by decide))))
      (broadcastTo S64x128 (extractStridedSlice S1x128 ![3, 0] t (by decide)) (by decide)) (ix2 a b)
      = conv X W T K c s (r + a) b := by
  unfold conv
  rw [show r + a.val + 6 = r + 6 + a by omega, show r + a.val + 7 = r + 7 + a by omega,
    show r + a.val + 8 = r + 8 + a by omega, ← e0, ← e1, ← e2]
  refine Eq.trans ?_ (congrArg₂ (· + ·) (congrArg₂ (· + ·) (congrArg₂ (· + ·) (congrArg (· * _) (ht 0 b)) (congrArg (· * _) (ht 1 b)))
    (congrArg (· * _) (ht 2 b))) (ht 3 b))
  pointwise []

/-- One strip's gated values, in half `h` of the columns. -/
theorem glu_piece {g v : FVec Ideal S64x128 .f32} {c r : ℕ} (h : ℕ)
    (hg : ∀ a b, g (ix2 a b) = conv X W T K c h (r + a) b) (hv : ∀ a b, v (ix2 a b) = conv X W T K c (2 + h) (r + a) b)
    (x : S1x64x128.Idx) :
    shapeCast S1x64x128 (truncf .bf16 (mulf (mulf g (mulf (broadcast S64x128 (Scalar.ofBits .f32 0x3F000000#32))
      (addf (broadcast S64x128 (Scalar.ofBits .f32 0x3F800000#32)) (tanh (mulf (broadcast S64x128 (Scalar.ofBits .f32 0x3F4C422A#32))
        (addf g (mulf (broadcast S64x128 (Scalar.ofBits .f32 0x3D372713#32)) (mulf g (mulf g g))))))))) v) (by decide)) (by decide) x
      = glu X W T K c (r + (x 1).val) (128 * h + (x 2).val) := by
  obtain ⟨z, a, b, rfl⟩ : ∃ (z : Fin 1) (a : Fin 64) (b : Fin 128), x = ix3 z a b := ⟨x 0, x 1, x 2, by blk_ext []⟩
  refine Eq.trans ?_ (glu_half b.isLt).symm
  show _ = gelu (conv X W T K c h (r + a) b) * conv X W T K c (2 + h) (r + a) b
  rw [← hg, ← hv]
  unfold gelu
  pointwise []

/-- One chunk added onto the accumulator. -/
theorem acc_piece {la : Vec Ideal S512x1024 .f32} {lh : Vec Ideal S1x512x256 .bf16} {c : ℕ} {w : FVec Ideal S256x1024 .bf16}
    (ha : ∀ x : S512x1024.Idx, la x = acc X W T D K c (x 0).val (x 1).val) (hh : ∀ r k, lh (ix3 0 r k) = glu X W T K c r k)
    (hw : ∀ k j, w (ix2 k j) = D (256 * c + k) j) (x : S512x1024.Idx) :
    shapeCast S512x1024 (addf (φ := .f32) la (matmul (φ₁ := .bf16) (φ₂ := .bf16) dot_S512x256_S256x1024_S512x1024_1_0_0_1_n_n none (shapeCast S512x256 lh (by decide)) w
        (constant S512x1024 .f32 0x00000000#32))) (by decide) x = acc X W T D K (c + 1) (x 0).val (x 1).val := by
  obtain ⟨r, j, rfl⟩ : ∃ (r : Fin 512) (j : Fin 1024), x = ix2 r j := ⟨x 0, x 1, by blk_ext []⟩
  show _ = acc X W T D K c r j + ∑ k : Fin 256, glu X W T K c r k * D (256 * c + k) j
  simp only [← hh, ← hw]
  rw [← show la (ix2 r j) = acc X W T D K c r j from ha (ix2 r j)]
  pointwise []

end Cert.FfnIdeal.Value

end
-- ==== Proof.FfnTileA.lean ====
module

public import proofs.«01_k».proof.Proof.FfnBody

@[expose] public section

set_option maxRecDepth 100000
set_option maxHeartbeats 0

noncomputable section

/-! A batch's first tile through the body: the carry is zero. -/

namespace Cert.FfnIdeal.Value

open Idealize.ShloMosaic Idealize.ShloMosaic.TcCoe Idealize.SL.Sem
open Cert.FfnIdeal Cert.FfnIdeal.Gen

seal shapeCast addf mulf truncf broadcast broadcastTo extractStridedSlice tanh constant View.readCov View.readAt

variable (c : Dev nD) (i : grid0.Coords) (a2 : Memref sig .tc .vmem S1x512x1024 .f32) (h2 : a2.IsWhole)
  (a3 : Memref sig .tc .vmem S1024x5632 .bf16) (h3 : a3.IsWhole) (a4 : Memref sig .tc .vmem S8x5632 .f32) (h4 : a4.IsWhole)
  (a5 : Memref sig .tc .vmem S2816x1024 .bf16) (h5 : a5.IsWhole) (a6 : Memref sig .tc .vmem S1x1024 .f32) (h6 : a6.IsWhole)
  (a7 : Memref sig .tc .vmem S1x1024 .f32) (h7 : a7.IsWhole) (a8 : Memref sig .tc .vmem S1x512x1024 .f32) (h8 : a8.IsWhole)
  (a9 : Memref sig .tc .vmem S44x8x128 .f32) (h9 : a9.IsWhole) (a10 : Memref sig .tc .vmem S2x4x520x128 .f32) (h10 : a10.IsWhole)
  (a11 : Memref sig .tc .vmem S2x512x256 .bf16) (h11 : a11.IsWhole) (a12 : Memref sig .tc .vmem S512x1024 .f32) (h12 : a12.IsWhole)
  (x0 : Vec Ideal S1x512x1024 .f32) (x1 : Vec Ideal S1024x5632 .bf16) (x2 : Vec Ideal S8x5632 .f32)
  (x3 : Vec Ideal S2816x1024 .bf16) (x4 x5 : Vec Ideal S1x1024 .f32)

/-- The carried rows of a batch's first tile are zero. -/
theorem zero_piece {lc : Vec Ideal S1x8x128 .f32} (hc : ∀ q j, lc (ix3 0 q j) = 0) (x : S1x1x8x128.Idx) :
    shapeCast S1x1x8x128 (shapeCast S8x128 lc (by decide)) (by decide) x = (0 : EReal) :=
  carry_piece (K := fun _ _ _ => 0) (n := 0) hc x

/-- The carry after a batch's first tile: the last eight rows of every slab. -/
theorem carryA (hc0 : cond0_0 i) : CAt (at3 (l := 1) (m := 512) (n := 1024) x0 0) (at2 (m := 1024) (n := 5632) x1) (kernelRun0_A (F := Ideal) c i a2 h2 a3 h3 a4 h4 a5 h5 a6 h6 a7 h7 a8 h8 a9 h9 a10 h10 a11 h11 a12 h12 hc0 x0 x1 x2 x3 x4 x5).2.1 44 := by
  unfold kernelRun0_A
  dsimp only
  iterate 44
    refine CAt.slab _ (last_piece _ ?_ ?_ ?_) ?_
    · exact x_piece (x_load a2 h2 x0)
    · exact w_load a3 h3 x1 _ _ rfl
    · rfl
  exact CAt.zero

/-- The accumulator after the eleven chunks of a batch's first tile. -/
theorem accA (hc0 : cond0_0 i) : AccAt (at3 (l := 1) (m := 512) (n := 1024) x0 0) (at2 (m := 1024) (n := 5632) x1) (at2 (m := 8) (n := 5632) x2) (at2 (m := 2816) (n := 1024) x3) (fun _ _ _ => 0) (kernelRun0_A (F := Ideal) c i a2 h2 a3 h3 a4 h4 a5 h5 a6 h6 a7 h7 a8 h8 a9 h9 a10 h10 a11 h11 a12 h12 hc0 x0 x1 x2 x3 x4 x5).2.2.2.2.1 11 := by
  unfold kernelRun0_A
  dsimp only
  iterate 11
    refine AccAt.whole (acc_piece ?_ ?_ ?_)
    rotate_left
    · refine h_load ?_ a11.view
      apply HAt.of
      case h =>
        intro hu
        iterate 8
          refine HAt.strip _ ?_ ?_ ?_
          iterate 2
            · refine glu_piece _ ?_ ?_
              all_goals
                refine conv_piece ?_ ?_ ?_ ?_
                · exact t_load a4 h4 x2 _ _ _ rfl
                · exact u_load hu _ _ a10.view (by decide)
                · exact u_load hu _ _ a10.view (by decide)
                · exact u_load hu _ _ a10.view (by decide)
        exact HAt.zero
      case hu =>
        repeat refine UAt.skip _ _ _ _ (by decide) ?_
        iterate 4
          refine UAt.slab _ ?_ ?_ ?_
          · refine up_piece _ ?_ ?_ ?_
            · exact x_piece (x_load a2 h2 x0)
            · exact w_load a3 h3 x1 _ _ rfl
            · rfl
          · refine zero_piece ?_
            exact zero_load (by
              repeat refine ZAt.slab _ ?_
              exact ZAt.fill) a9.view
        exact UAt.zero _ _ _
    · exact d_load a5 h5 x3 _ _ rfl
    refine acc_load ?_ a12.view
  exact AccAt.whole (acc_first (x_load a2 h2 x0))

end Cert.FfnIdeal.Value

end
-- ==== Proof.FfnTileB.lean ====
module

public import proofs.«01_k».proof.Proof.FfnBody

@[expose] public section

set_option maxRecDepth 100000
set_option maxHeartbeats 0

noncomputable section

/-! A later tile through the body: the carry is the tile before's. -/

namespace Cert.FfnIdeal.Value

open Idealize.ShloMosaic Idealize.ShloMosaic.TcCoe Idealize.SL.Sem
open Cert.FfnIdeal Cert.FfnIdeal.Gen

seal shapeCast addf mulf truncf broadcast broadcastTo extractStridedSlice tanh constant View.readCov View.readAt

variable (c : Dev nD) (i : grid0.Coords) (a2 : Memref sig .tc .vmem S1x512x1024 .f32) (h2 : a2.IsWhole)
  (a3 : Memref sig .tc .vmem S1024x5632 .bf16) (h3 : a3.IsWhole) (a4 : Memref sig .tc .vmem S8x5632 .f32) (h4 : a4.IsWhole)
  (a5 : Memref sig .tc .vmem S2816x1024 .bf16) (h5 : a5.IsWhole) (a6 : Memref sig .tc .vmem S1x1024 .f32) (h6 : a6.IsWhole)
  (a7 : Memref sig .tc .vmem S1x1024 .f32) (h7 : a7.IsWhole) (a8 : Memref sig .tc .vmem S1x512x1024 .f32) (h8 : a8.IsWhole)
  (a9 : Memref sig .tc .vmem S44x8x128 .f32) (h9 : a9.IsWhole) (a10 : Memref sig .tc .vmem S2x4x520x128 .f32) (h10 : a10.IsWhole)
  (a11 : Memref sig .tc .vmem S2x512x256 .bf16) (h11 : a11.IsWhole) (a12 : Memref sig .tc .vmem S512x1024 .f32) (h12 : a12.IsWhole)
  (x0 : Vec Ideal S1x512x1024 .f32) (x1 : Vec Ideal S1024x5632 .bf16) (x2 : Vec Ideal S8x5632 .f32)
  (x3 : Vec Ideal S2816x1024 .bf16) (x4 x5 : Vec Ideal S1x1024 .f32) (xs0 : Vec Ideal S44x8x128 .f32)

/-- The carry after a tile that is not a batch's first: the last eight rows of every slab. -/
theorem carryB (hc0 : ¬cond0_0 i) : CAt (at3 (l := 1) (m := 512) (n := 1024) x0 0) (at2 (m := 1024) (n := 5632) x1) (kernelRun0_B (F := Ideal) c i a2 h2 a3 h3 a4 h4 a5 h5 a6 h6 a7 h7 a8 h8 a9 h9 a10 h10 a11 h11 a12 h12 hc0 x0 x1 x2 x3 x4 x5 xs0).2.1 44 := by
  unfold kernelRun0_B
  dsimp only
  iterate 44
    refine CAt.slab _ (last_piece _ ?_ ?_ ?_) ?_
    · exact x_piece (x_load a2 h2 x0)
    · exact w_load a3 h3 x1 _ _ rfl
    · rfl
  exact CAt.zero

/-- The accumulator after the eleven chunks of a tile that is not a batch's first. -/
theorem accB (hc0 : ¬cond0_0 i) : AccAt (at3 (l := 1) (m := 512) (n := 1024) x0 0) (at2 (m := 1024) (n := 5632) x1) (at2 (m := 8) (n := 5632) x2) (at2 (m := 2816) (n := 1024) x3) (at3 (l := 44) (m := 8) (n := 128) xs0) (kernelRun0_B (F := Ideal) c i a2 h2 a3 h3 a4 h4 a5 h5 a6 h6 a7 h7 a8 h8 a9 h9 a10 h10 a11 h11 a12 h12 hc0 x0 x1 x2 x3 x4 x5 xs0).2.2.2.2.1 11 := by
  unfold kernelRun0_B
  dsimp only
  iterate 11
    refine AccAt.whole (acc_piece ?_ ?_ ?_)
    rotate_left
    · refine h_load ?_ a11.view
      apply HAt.of
      case h =>
        intro hu
        iterate 8
          refine HAt.strip _ ?_ ?_ ?_
          iterate 2
            · refine glu_piece _ ?_ ?_
              all_goals
                refine conv_piece ?_ ?_ ?_ ?_
                · exact t_load a4 h4 x2 _ _ _ rfl
                · exact u_load hu _ _ a10.view (by decide)
                · exact u_load hu _ _ a10.view (by decide)
                · exact u_load hu _ _ a10.view (by decide)
        exact HAt.zero
      case hu =>
        repeat refine UAt.skip _ _ _ _ (by decide) ?_
        iterate 4
          refine UAt.slab _ ?_ ?_ ?_
          · refine up_piece _ ?_ ?_ ?_
            · exact x_piece (x_load a2 h2 x0)
            · exact w_load a3 h3 x1 _ _ rfl
            · rfl
          · refine carry_piece ?_
            exact carry_load a9 h9 xs0 _
        exact UAt.zero _ _ _
    · exact d_load a5 h5 x3 _ _ rfl
    refine acc_load ?_ a12.view
  exact AccAt.whole (acc_first (x_load a2 h2 x0))

end Cert.FfnIdeal.Value

end
-- ==== Proof.FfnOut.lean ====
module

public import proofs.«01_k».proof.Proof.FfnTileA
public import proofs.«01_k».proof.Proof.FfnTileB

@[expose] public section

set_option maxRecDepth 100000

noncomputable section

/-! What the body leaves in the output block and in the carry. -/

namespace Cert.FfnIdeal.Value

open Idealize.ShloMosaic Idealize.ShloMosaic.TcCoe Idealize.SL.Sem
open Cert.FfnIdeal Cert.FfnIdeal.Gen Cert.Mix

/-- A whole row block of gains, loaded. -/
theorem g_load (a : Memref sig .tc .vmem S1x1024 .f32) (h : a.IsWhole) (x : Vec Ideal S1x1024 .f32) {i} (k : Fin 1024) :
    View.readAt (Elt Ideal) a.view (Rect.unit (s := S1x1024) ![0, 0] S1x1024.size i).toLoadRect (h.unread x) (ix2 0 k)
      = x (ix2 0 k) := by
  refine (mat_load a h x 0 0 (0 : Fin 1) k).trans (congrArg x (funext fun q => Fin.ext ?_))
  fin_cases q
  · rfl
  · exact (Rect.idx_unit_val ..).trans (Nat.zero_add _)

/-- The normalised row the body stores. -/
theorem norm_at (la : Vec Ideal S512x1024 .f32) (lg lb : Vec Ideal S1x1024 .f32) (r : Fin 512) (j : Fin 1024) :
    k0_pay1160 (k0_pay1159 la lg lb) (ix3 0 r j)
      = lnRow (fun k => la (ix2 r k)) (fun k => lg (ix2 0 k)) (fun k => lb (ix2 0 k)) j := by
  pointwise [k0_pay1160, k0_pay1159, lnRow, lnAt, mean]

/-- One whole store of a normalised accumulator. -/
theorem out_piece {la : Vec Ideal S512x1024 .f32} {lg lb : Vec Ideal S1x1024 .f32} {A : ℕ → ℕ → EReal} {g b : Fin 1024 → EReal}
    {inb : ∀ a, (![0, 0, 0] : Fin 3 → ℕ) a + S1x512x1024.size a ≤ S1x512x1024.size a}
    {L : List (View.Piece (Elt Ideal) S1x512x1024 .f32)}
    (ha : ∀ x : S512x1024.Idx, la x = A (x 0).val (x 1).val) (hg : ∀ k, lg (ix2 0 k) = g k) (hb : ∀ k, lb (ix2 0 k) = b k)
    (r : Fin 512) (j : Fin 1024) :
    View.canon (⟨Rect.unit (s := S1x512x1024) ![0, 0, 0] S1x512x1024.size inb, k0_pay1160 (k0_pay1159 la lg lb)⟩ :: L)
      (ix3 0 r j) = lnRow (fun k => A r k) g b j := by
  rw [View.canon_cons_unit_zero (S := S1x512x1024) (funext fun a => by fin_cases a <;> rfl)]
  refine (norm_at la lg lb r j).trans ?_
  rw [show (fun k => la (ix2 r k)) = (fun k : Fin 1024 => A r k) from funext fun k => ha (ix2 r k), funext hg, funext hb]

seal shapeCast addf mulf truncf broadcast broadcastTo extractStridedSlice tanh constant View.readCov View.readAt

variable (c : Dev nD) (i : grid0.Coords) (a2 : Memref sig .tc .vmem S1x512x1024 .f32) (h2 : a2.IsWhole)
  (a3 : Memref sig .tc .vmem S1024x5632 .bf16) (h3 : a3.IsWhole) (a4 : Memref sig .tc .vmem S8x5632 .f32) (h4 : a4.IsWhole)
  (a5 : Memref sig .tc .vmem S2816x1024 .bf16) (h5 : a5.IsWhole) (a6 : Memref sig .tc .vmem S1x1024 .f32) (h6 : a6.IsWhole)
  (a7 : Memref sig .tc .vmem S1x1024 .f32) (h7 : a7.IsWhole) (a8 : Memref sig .tc .vmem S1x512x1024 .f32) (h8 : a8.IsWhole)
  (a9 : Memref sig .tc .vmem S44x8x128 .f32) (h9 : a9.IsWhole) (a10 : Memref sig .tc .vmem S2x4x520x128 .f32) (h10 : a10.IsWhole)
  (a11 : Memref sig .tc .vmem S2x512x256 .bf16) (h11 : a11.IsWhole) (a12 : Memref sig .tc .vmem S512x1024 .f32) (h12 : a12.IsWhole)
  (x0 : Vec Ideal S1x512x1024 .f32) (x1 : Vec Ideal S1024x5632 .bf16) (x2 : Vec Ideal S8x5632 .f32)
  (x3 : Vec Ideal S2816x1024 .bf16) (x4 x5 : Vec Ideal S1x1024 .f32)

section
variable (hc0 : cond0_0 i)

/-- The output block of a batch's first tile. -/
theorem outA (r : Fin 512) (j : Fin 1024) : out0_A_6 (F := Ideal) c i a2 h2 a3 h3 a4 h4 a5 h5 a6 h6 a7 h7 a8 h8 a9 h9 a10 h10 a11 h11 a12 h12 hc0 x0 x1 x2 x3 x4 x5 (ix3 0 r j)
    = lnRow (fun k => acc (at3 (l := 1) (m := 512) (n := 1024) x0 0) (at2 (m := 1024) (n := 5632) x1) (at2 (m := 8) (n := 5632) x2) (at2 (m := 2816) (n := 1024) x3) (fun _ _ _ => 0) 11 r k) (fun k => x4 (ix2 0 k)) (fun k => x5 (ix2 0 k)) j := by
  unfold out0_A_6
  rw [View.read_writes_junk_eq_canon]
  have ha := accA c i a2 h2 a3 h3 a4 h4 a5 h5 a6 h6 a7 h7 a8 h8 a9 h9 a10 h10 a11 h11 a12 h12 x0 x1 x2 x3 x4 x5 hc0
  revert ha
  unfold kernelRun0_A
  dsimp only
  intro ha
  refine out_piece (A := fun a b => acc (at3 (l := 1) (m := 512) (n := 1024) x0 0) (at2 (m := 1024) (n := 5632) x1) (at2 (m := 8) (n := 5632) x2) (at2 (m := 2816) (n := 1024) x3) (fun _ _ _ => 0) 11 a b) ?_ ?_ ?_ r j
  · exact acc_load ha a12.view
  · exact g_load a6 h6 x4
  · exact g_load a7 h7 x5

/-- The carry a batch's first tile leaves. -/
theorem soutA (y : S44x8x128.Idx) : sout0_A_0 (F := Ideal) c i a2 h2 a3 h3 a4 h4 a5 h5 a6 h6 a7 h7 a8 h8 a9 h9 a10 h10 a11 h11 a12 h12 hc0 x0 x1 x2 x3 x4 x5 y
    = up (at3 (l := 1) (m := 512) (n := 1024) x0 0) (at2 (m := 1024) (n := 5632) x1) (504 + (y 1).val) (col ((y 0).val / 4) ((y 0).val % 4) (y 2).val) := by
  unfold sout0_A_0
  rw [View.read_writes_junk_eq_canon]
  exact carryA c i a2 h2 a3 h3 a4 h4 a5 h5 a6 h6 a7 h7 a8 h8 a9 h9 a10 h10 a11 h11 a12 h12 x0 x1 x2 x3 x4 x5 hc0 y (y 0).isLt
end

section
variable (xs0 : Vec Ideal S44x8x128 .f32) (hc0 : ¬cond0_0 i)

/-- The output block of a later tile. -/
theorem outB (r : Fin 512) (j : Fin 1024) : out0_B_6 (F := Ideal) c i a2 h2 a3 h3 a4 h4 a5 h5 a6 h6 a7 h7 a8 h8 a9 h9 a10 h10 a11 h11 a12 h12 hc0 x0 x1 x2 x3 x4 x5 xs0 (ix3 0 r j)
    = lnRow (fun k => acc (at3 (l := 1) (m := 512) (n := 1024) x0 0) (at2 (m := 1024) (n := 5632) x1) (at2 (m := 8) (n := 5632) x2) (at2 (m := 2816) (n := 1024) x3) (at3 (l := 44) (m := 8) (n := 128) xs0) 11 r k) (fun k => x4 (ix2 0 k)) (fun k => x5 (ix2 0 k)) j := by
  unfold out0_B_6
  rw [View.read_writes_junk_eq_canon]
  have ha := accB c i a2 h2 a3 h3 a4 h4 a5 h5 a6 h6 a7 h7 a8 h8 a9 h9 a10 h10 a11 h11 a12 h12 x0 x1 x2 x3 x4 x5 xs0 hc0
  revert ha
  unfold kernelRun0_B
  dsimp only
  intro ha
  refine out_piece (A := fun a b => acc (at3 (l := 1) (m := 512) (n := 1024) x0 0) (at2 (m := 1024) (n := 5632) x1) (at2 (m := 8) (n := 5632) x2) (at2 (m := 2816) (n := 1024) x3) (at3 (l := 44) (m := 8) (n := 128) xs0) 11 a b) ?_ ?_ ?_ r j
  · exact acc_load ha a12.view
  · exact g_load a6 h6 x4
  · exact g_load a7 h7 x5

/-- The carry a later tile leaves. -/
theorem soutB (y : S44x8x128.Idx) : sout0_B_0 (F := Ideal) c i a2 h2 a3 h3 a4 h4 a5 h5 a6 h6 a7 h7 a8 h8 a9 h9 a10 h10 a11 h11 a12 h12 hc0 x0 x1 x2 x3 x4 x5 xs0 y
    = up (at3 (l := 1) (m := 512) (n := 1024) x0 0) (at2 (m := 1024) (n := 5632) x1) (504 + (y 1).val) (col ((y 0).val / 4) ((y 0).val % 4) (y 2).val) := by
  unfold sout0_B_0
  rw [View.read_writes_junk_eq_canon]
  exact carryB c i a2 h2 a3 h3 a4 h4 a5 h5 a6 h6 a7 h7 a8 h8 a9 h9 a10 h10 a11 h11 a12 h12 x0 x1 x2 x3 x4 x5 xs0 hc0 y (y 0).isLt
end

end Cert.FfnIdeal.Value

end
-- ==== Proof.FfnSeq.lean ====
module

public import proofs.«01_k».proof.Proof.FfnBody

@[expose] public section

set_option maxRecDepth 16384

noncomputable section

/-! The feed-forward block along a whole sequence, and a tile's result as its rows. -/

namespace Cert.FfnIdeal.Value

open Idealize.ShloMosaic Idealize.ShloMosaic.TcCoe

variable (S X W T D : ℕ → ℕ → EReal) (K : ℕ → ℕ → ℕ → EReal)

/-- The up-projection of a sequence with two zero rows before it. -/
def padded (s n : ℕ) : EReal := if s < 2 then 0 else up S W (s - 2) n

/-- The causal convolution of the up-projection at position `s`, column `n`. -/
def convS (n s : ℕ) : EReal :=
  T 0 n * padded S W s n + T 1 n * padded S W (s + 1) n + T 2 n * padded S W (s + 2) n + T 3 n

/-- The gated value at position `s`, column `n`. -/
def gluS (n s : ℕ) : EReal := gelu (convS S W T n s) * convS S W T (2816 + n) s

/-- The scaled input plus the down-projection, at position `s`. -/
def seq (s j : ℕ) : EReal := Ideal.ofBits .f32 0x3FB504F3#32 * S s j + ∑ k : Fin 2816, gluS S W T k s * D k j

variable {S X W T D K}

/-- A tile's row of the up-projection is the sequence's. -/
theorem up_seq {o : ℕ} {r : ℕ} (hX : ∀ k < 1024, X r k = S (o + r) k) (n : ℕ) : up X W r n = up S W (o + r) n :=
  Finset.sum_congr rfl fun k _ => congrArg (· * _) (hX k k.isLt)

variable {i : ℕ} (hX : ∀ r < 512, ∀ k < 1024, X r k = S (512 * i + r) k)
  (hK : ∀ c < 11, ∀ s < 4, ∀ q < 8, ∀ j < 128, K (4 * c + s) q j = if i = 0 then 0 else up S W (512 * i + q - 8) (col c s j))
include hX hK

/-- A slab's rows from the sixth on are the padded sequence's. -/
theorem ext_seq {c s r j d : ℕ} (hc : c < 11) (hs : s < 4) (hr : r < 512) (hj : j < 128) (hd : d < 3) :
    ext X W K c s (r + (6 + d)) j = padded S W (512 * i + r + d) (col c s j) := by
  unfold ext padded
  by_cases h8 : r + (6 + d) < 8
  · rw [if_pos h8, hK c hc s hs _ h8 j hj]
    by_cases h0 : i = 0
    · rw [if_pos h0, if_pos (by omega)]
    · rw [if_neg h0, if_neg (by omega)]
      congr 1
      omega
  · rw [if_neg h8, if_neg (by omega), up_seq (o := 512 * i) (hX (r + (6 + d) - 8) (by omega))]
    congr 1
    omega

/-- A chunk's convolution is the sequence's. -/
theorem conv_seq {c s r j : ℕ} (hc : c < 11) (hs : s < 4) (hr : r < 512) (hj : j < 128) :
    conv X W T K c s r j = convS S W T (col c s j) (512 * i + r) := by
  unfold conv convS
  rw [ext_seq hX hK (d := 0) hc hs hr hj (by omega), ext_seq hX hK (d := 1) hc hs hr hj (by omega),
    ext_seq hX hK (d := 2) hc hs hr hj (by omega)]
  rfl

/-- A chunk's gated column is the sequence's. -/
theorem glu_seq {c r k : ℕ} (hc : c < 11) (hr : r < 512) (hk : k < 256) :
    glu X W T K c r k = gluS S W T (256 * c + k) (512 * i + r) := by
  unfold glu gluS
  rw [conv_seq hX hK hc (by omega) hr (by omega), conv_seq hX hK hc (by omega) hr (by omega)]
  have e0 : col c (k / 128) (k % 128) = 256 * c + k := by unfold col; omega
  have e1 : col c (2 + k / 128) (k % 128) = 2816 + (256 * c + k) := by unfold col; omega
  rw [e0, e1]

/-- The first `c` chunks are the first `256 * c` columns. -/
theorem acc_range {r j : ℕ} (hr : r < 512) (hj : j < 1024) : ∀ c ≤ 11, acc X W T D K c r j
    = Ideal.ofBits .f32 0x3FB504F3#32 * S (512 * i + r) j
      + ∑ n ∈ Finset.range (256 * c), gluS S W T n (512 * i + r) * D n j
  | 0, _ => by
    rw [show acc X W T D K 0 r j = Ideal.ofBits .f32 0x3FB504F3#32 * X r j from rfl, hX r hr j hj]
    simp
  | c + 1, h => by
    rw [show acc X W T D K (c + 1) r j = acc X W T D K c r j + ∑ k : Fin 256, glu X W T K c r k * D (256 * c + k) j from rfl,
      acc_range hr hj c (by omega), Nat.mul_succ, Finset.sum_range_add, ← add_assoc, Finset.sum_range]
    exact congrArg (HAdd.hAdd _) (Finset.sum_congr rfl fun k _ => congrArg (· * _) (glu_seq hX hK (by omega) hr k.isLt))

/-- A tile's accumulator is its rows of the sequence's. -/
theorem acc_seq {r j : ℕ} (hr : r < 512) (hj : j < 1024) : acc X W T D K 11 r j = seq S W T D (512 * i + r) j := by
  rw [acc_range hX hK hr hj 11 (le_refl _)]
  unfold seq
  rw [show 256 * 11 = 2816 from rfl, Finset.sum_range]

end Cert.FfnIdeal.Value

end
-- ==== Proof.FfnRef.lean ====
module

public import proofs.«01_k».proof.Proof.Gen.FfnReferenceIdeal.Read
public import proofs.«01_k».proof.Proof.FfnSeq

@[expose] public section

set_option maxRecDepth 16384

noncomputable section

/-! The feed-forward block's reference read at an index, as the sequence functions of `FfnSeq`. -/

namespace Cert.FfnR

open Idealize.ShloMosaic Idealize.ShloMosaic.TcCoe Idealize.SL.Sem
open Cert.FfnReferenceIdeal Cert.FfnReferenceIdeal.Gen Cert.FfnReferenceIdeal.Read Cert.Mix Cert.FfnIdeal.Value

variable (x0 : (⟨S16x2048x1024, .f32⟩ : BufTy).Contents (Elt Ideal)) (x1 : (⟨S1024x5632, .f32⟩ : BufTy).Contents (Elt Ideal))
  (x2 : (⟨S3x1x5632, .f32⟩ : BufTy).Contents (Elt Ideal)) (x3 : (⟨S5632, .f32⟩ : BufTy).Contents (Elt Ideal))
  (x4 : (⟨S2816x1024, .f32⟩ : BufTy).Contents (Elt Ideal)) (x5 x6 : (⟨S1024, .f32⟩ : BufTy).Contents (Elt Ideal))
  (b : Fin 16) (s : Fin 2048) (j : Fin 1024)

/-- The three taps and the bias, as rows; the rows after them are zero. -/
def taps (x2 : (⟨S3x1x5632, .f32⟩ : BufTy).Contents (Elt Ideal)) (x3 : (⟨S5632, .f32⟩ : BufTy).Contents (Elt Ideal))
    (d n : ℕ) : EReal :=
  if h : n < 5632 then (if hd : d < 3 then x2 (ix3 ⟨d, hd⟩ 0 ⟨n, h⟩) else if d = 3 then x3 (ix1 ⟨n, h⟩) else 0) else 0

/-- The up-projection. -/
theorem v2_at (n : Fin 5632) : val_main_v2 (F := Ideal) x0 x1 (ix3 b s n) = up (at3 x0 b) (at2 x1) s n := by
  refine Eq.trans (b := ∑ k : Fin 1024, x0 (ix3 b s k) * x1 (ix2 k n)) ?_ (Finset.sum_congr rfl fun k _ =>
    congrArg₂ (· * ·) (at3_of x0 _ rfl rfl rfl) (at2_of x1 _ rfl rfl))
  pointwise [val_main_v2]

/-- The padded up-projection. -/
theorem v4_at (p : Fin 2050) (n : Fin 5632) :
    val_main_v4 (F := Ideal) x0 x1 (ix3 b p n) = padded (at3 x0 b) (at2 x1) p n := by
  refine Eq.trans (b := if h : p.val < 2 then (0 : EReal) else val_main_v2 (F := Ideal) x0 x1 (ix3 b ⟨p.val - 2, by omega⟩ n)) ?_ ?_
  · unfold val_main_v4
    generalize val_main_v2 (F := Ideal) x0 x1 = Z
    pointwise [val_main_v3, val_main_cst_0]
  · unfold padded
    by_cases h : p.val < 2
    · rw [dif_pos h, if_pos h]
    · rw [dif_neg h, if_neg h]
      exact v2_at x0 x1 b ⟨p.val - 2, by omega⟩ n

/-- The convolution, before its meaning. -/
theorem v27_raw (n : Fin 5632) : val_main_v27 (F := Ideal) x0 x1 x2 x3 (ix3 b s n)
    = x2 (ix3 0 0 n) * val_main_v4 (F := Ideal) x0 x1 (ix3 b ⟨s, by omega⟩ n)
      + x2 (ix3 1 0 n) * val_main_v4 (F := Ideal) x0 x1 (ix3 b ⟨1 + s, by omega⟩ n)
      + x2 (ix3 2 0 n) * val_main_v4 (F := Ideal) x0 x1 (ix3 b ⟨2 + s, by omega⟩ n) + x3 (ix1 n) := by
  unfold val_main_v27 val_main_v24 val_main_v23 val_main_v20 val_main_v17 val_main_v16 val_main_v13 val_main_v10 val_main_v7
  generalize val_main_v4 (F := Ideal) x0 x1 = Z
  pointwise [val_main_v5, val_main_v6, val_main_v8, val_main_v9, val_main_v11, val_main_v12, val_main_v14, val_main_v15, val_main_v18, val_main_v19, val_main_v21, val_main_v22, val_main_v25, val_main_v26]

/-- The convolution. -/
theorem v27_at (n : Fin 5632) : val_main_v27 (F := Ideal) x0 x1 x2 x3 (ix3 b s n)
    = convS (at3 x0 b) (at2 x1) (taps x2 x3) n s := by
  rw [v27_raw, v4_at, v4_at, v4_at]
  unfold convS taps
  rw [dif_pos n.isLt, dif_pos n.isLt, dif_pos n.isLt, dif_pos n.isLt, dif_pos (by decide), dif_pos (by decide),
    dif_pos (by decide), dif_neg (by decide), if_pos rfl, Nat.add_comm s.val 1, Nat.add_comm s.val 2]
  rfl

/-- The gated value, before its meaning. -/
theorem v43_raw (n : Fin 2816) : val_main_v43 (F := Ideal) x0 x1 x2 x3 (ix3 b s n)
    = gelu (val_main_v27 (F := Ideal) x0 x1 x2 x3 (ix3 b s ⟨n, by omega⟩))
      * val_main_v27 (F := Ideal) x0 x1 x2 x3 (ix3 b s ⟨2816 + n, by omega⟩) := by
  unfold val_main_v43 val_main_v42 val_main_v41 val_main_v39 val_main_v37 val_main_v36 val_main_v34 val_main_v33 val_main_v31
    val_main_v30 val_main_v29 val_main_v28
  generalize val_main_v27 (F := Ideal) x0 x1 x2 x3 = Z
  unfold gelu
  rw [mul_comm (Z _) (Z _ * Z _)]
  pointwise [val_main_v32, val_main_cst_1, val_main_v35, val_main_cst_2, val_main_v38, val_main_cst_3, val_main_v40, val_main_cst_4]

/-- The gated value. -/
theorem v43_at (n : Fin 2816) : val_main_v43 (F := Ideal) x0 x1 x2 x3 (ix3 b s n)
    = gluS (at3 x0 b) (at2 x1) (taps x2 x3) n s := by
  rw [v43_raw, v27_at, v27_at]
  rfl

/-- The row that is normalised. -/
theorem v45_at : val_main_v45 (F := Ideal) x0 x1 x2 x3 x4 (ix3 b s j)
    = seq (at3 x0 b) (at2 x1) (taps x2 x3) (at2 x4) s j := by
  refine Eq.trans (b := Ideal.ofBits .f32 0x3FB504F3#32 * x0 (ix3 b s j)
    + ∑ k : Fin 2816, val_main_v43 (F := Ideal) x0 x1 x2 x3 (ix3 b s k) * x4 (ix2 k j)) ?_ ?_
  · unfold val_main_v45 val_main_v44
    generalize val_main_v43 (F := Ideal) x0 x1 x2 x3 = Z
    pointwise [val_main_v1, val_main_v0, val_main_cst]
  · exact congrArg₂ (· + ·) (congrArg (_ * ·) (at3_of x0 _ rfl rfl rfl)) (Finset.sum_congr rfl fun k _ =>
      congrArg₂ (· * ·) (v43_at x0 x1 x2 x3 b s k) (at2_of x4 _ rfl rfl))

/-- The normalisation, before its argument's meaning. -/
theorem v69_raw : val_main_v69 (F := Ideal) x0 x1 x2 x3 x4 x5 x6 (ix3 b s j)
    = lnRow (fun k => val_main_v45 (F := Ideal) x0 x1 x2 x3 x4 (ix3 b s k)) (fun k => x5 (ix1 k)) (fun k => x6 (ix1 k)) j := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7, val_main_cst_8, val_main_cst_9, lnRow, lnAt, mean]

/-- The reference's result. -/
theorem v69_at : val_main_v69 (F := Ideal) x0 x1 x2 x3 x4 x5 x6 (ix3 b s j)
    = lnRow (fun k => seq (at3 x0 b) (at2 x1) (taps x2 x3) (at2 x4) s k) (fun k => x5 (ix1 k)) (fun k => x6 (ix1 k)) j := by
  rw [v69_raw]
  exact congrArg (fun u => lnRow u _ _ j) (funext fun k => v45_at x0 x1 x2 x3 x4 b s k)

end Cert.FfnR

end
-- ==== Proof.FfnValue.lean ====
module

public import proofs.«01_k».proof.Proof.FfnOut
public import proofs.«01_k».proof.Proof.FfnRef
public import Idealize.ShloMosaic.Lib.Pipeline.ValueKit

@[expose] public section

set_option maxRecDepth 16384

noncomputable section

/-! The feed-forward block: the kernel's result array and the reference's. -/

namespace Cert.FfnV

open Idealize.ShloMosaic Idealize.ShloMosaic.TcCoe Idealize.SL.Sem
open Idealize.ShloMosaic.Pipeline (Dat)
open Cert.FfnIdeal Cert.FfnIdeal.Gen Cert.FfnIdeal.Value Cert.Mix Cert.FfnR

seal out0_A_6 out0_B_6 sout0_A_0 sout0_B_0

variable (m : (ℓ : Loc nD τ sig) → Buf (Elt Ideal) ℓ)

/-- The block index of every window at every grid point. -/
theorem idx : ∀ t : Fin cfg0.N, win0_0.index t = ![t.val / 4, t.val % 4, 0] ∧ win0_1.index t = ![0, 0] ∧ win0_2.index t = ![0, 0]
    ∧ win0_3.index t = ![0, 0] ∧ win0_4.index t = ![0, 0] ∧ win0_5.index t = ![0, 0]
    ∧ win0_6.index t = ![t.val / 4, t.val % 4, 0] :=
  (by decide +kernel : ∀ t : Fin grid0.N, _)

/-- The result array. -/
def G (X : FVec Ideal S16x2048x1024 .f32) (W : FVec Ideal S1024x5632 .f32) (K : FVec Ideal S3x1x5632 .f32)
    (B : FVec Ideal S5632 .f32) (D : FVec Ideal S2816x1024 .f32) (g b : FVec Ideal S1024 .f32) : FVec Ideal S16x2048x1024 .f32 :=
  fun i => lnRow (fun k => seq (at3 (l := 16) (m := 2048) (n := 1024) X (i 0).val) (at2 (m := 1024) (n := 5632) W) (taps K B)
    (at2 (m := 2816) (n := 1024) D) (i 1).val k) (fun k => g (ix1 k)) (fun k => b (ix1 k)) (i 2)

/-- The rows of the taps' block, as the host joins them. -/
def joined (K : FVec Ideal S3x1x5632 .f32) (B : FVec Ideal S5632 .f32) : FVec Ideal S8x5632 .f32 :=
  concatenate S8x5632 0 [⟨S3x5632, shapeCast S3x5632 K shapeCasts_S3x1x5632_S3x5632⟩,
    ⟨S1x5632, broadcastInDim S1x5632 ![1] bcast_S5632_S1x5632_1 B⟩,
    ⟨S4x5632, broadcastInDim S4x5632 ![] bcast_S_S4x5632 (constant S_ .f32 0x00000000#32)⟩]
    concatenates_S3x5632_S1x5632_S4x5632_S8x5632_d0

/-- They are the taps, the bias and zero rows. -/
theorem joined_at (K : FVec Ideal S3x1x5632 .f32) (B : FVec Ideal S5632 .f32) (d : Fin 8) (n : Fin 5632) :
    joined K B (ix2 d n) = taps K B d n := by
  refine Eq.trans (b := if hd : d.val < 3 then K (ix3 ⟨d, hd⟩ 0 n) else if h : d.val - 3 < 1 then B (ix1 n) else 0) ?_ ?_
  · unfold joined
    pointwise []
  · unfold taps
    rw [dif_pos n.isLt]
    by_cases h : d.val < 3
    · rw [dif_pos h, dif_pos h]
    · rw [dif_neg h, dif_neg h]
      by_cases h3 : d.val = 3
      · rw [dif_pos (by omega), if_pos h3]
      · rw [dif_neg (by omega), if_neg h3]

section
variable (c : Dev nD) (t : Fin cfg0.N)

/-- The input's block at a grid point. -/
theorem x_at {r k : ℕ} (hr : r < 512) (hk : k < 1024) : at3 (l := 1) (m := 512) (n := 1024) (iblk m c 0 t) 0 r k
    = at3 (l := 16) (m := 2048) (n := 1024) (m ((c : Thread nD τ).loc main_arg0)) (t.val / 4) (512 * (t.val % 4) + r) k := by
  have ht : t.val < 64 := t.isLt
  unfold at3
  rw [dif_pos ⟨by omega, hr, hk⟩, dif_pos ⟨by omega, by omega, hk⟩]
  blk_point [iblk, V, idx t]

/-- The up-projection's weights at a grid point. -/
theorem w_eq : at2 (m := 1024) (n := 5632) (iblk m c 1 t) = at2 (m := 1024) (n := 5632) (m ((c : Thread nD τ).loc main_arg1)) := by
  refine congrArg at2 (funext fun y => ?_)
  obtain ⟨k, j, rfl⟩ : ∃ (k : Fin 1024) (j : Fin 5632), y = ix2 k j := ⟨y 0, y 1, by blk_ext []⟩
  blk_point [iblk, V, idx t]

/-- The down-projection's weights at a grid point. -/
theorem d_eq : at2 (m := 2816) (n := 1024) (iblk m c 3 t) = at2 (m := 2816) (n := 1024) (m ((c : Thread nD τ).loc main_arg4)) := by
  refine congrArg at2 (funext fun y => ?_)
  obtain ⟨k, j, rfl⟩ : ∃ (k : Fin 2816) (j : Fin 1024), y = ix2 k j := ⟨y 0, y 1, by blk_ext []⟩
  blk_point [iblk, V, idx t]

/-- The taps' block at a grid point. -/
theorem t_at (d : Fin 8) (n : Fin 5632) : iblk m c 2 t (ix2 d n)
    = joined (m ((c : Thread nD τ).loc main_arg2)) (m ((c : Thread nD τ).loc main_arg3)) (ix2 d n) := by
  unfold iblk
  have e : V m c (Pipeline.arrRef spec0 2) = joined (m ((c : Thread nD τ).loc main_arg2)) (m ((c : Thread nD τ).loc main_arg3)) := by
    first
    | rfl
    | (entry_read; rfl)
  rw [e]
  generalize joined (m ((c : Thread nD τ).loc main_arg2)) (m ((c : Thread nD τ).loc main_arg3)) = Z
  blk_point [idx t]

/-- The taps at a grid point. -/
theorem t_eq : at2 (m := 8) (n := 5632) (iblk m c 2 t)
    = taps (m ((c : Thread nD τ).loc main_arg2)) (m ((c : Thread nD τ).loc main_arg3)) := by
  funext d n
  unfold at2
  by_cases h : d < 8 ∧ n < 5632
  · rw [dif_pos h]
    exact (t_at m c t ⟨d, h.1⟩ ⟨n, h.2⟩).trans (joined_at _ _ ⟨d, h.1⟩ ⟨n, h.2⟩)
  · rw [dif_neg h]
    unfold taps
    by_cases hn : n < 5632
    · rw [dif_pos hn, dif_neg (by omega), if_neg (by omega)]
    · rw [dif_neg hn]

/-- The gain's block at a grid point. -/
theorem g_at (k : Fin 1024) : iblk m c 4 t (ix2 0 k) = m ((c : Thread nD τ).loc main_arg5) (ix1 k) := by
  blk_point [iblk, V, idx t]

/-- The offset's block at a grid point. -/
theorem b_at (k : Fin 1024) : iblk m c 5 t (ix2 0 k) = m ((c : Thread nD τ).loc main_arg6) (ix1 k) := by
  blk_point [iblk, V, idx t]

/-- The carry after a grid point: the last eight rows of its tile's up-projection. -/
theorem carry_at (y : S44x8x128.Idx) : (outsAt0 m c t.val t.isLt).2 y
    = up (at3 (l := 1) (m := 512) (n := 1024) (iblk m c 0 t) 0) (at2 (m := 1024) (n := 5632) (iblk m c 1 t)) (504 + (y 1).val)
        (col ((y 0).val / 4) ((y 0).val % 4) (y 2).val) := by
  by_cases h0 : t.val % 4 = 0
  · refine (congrFun (congrArg Prod.snd (outsAt0_A m c t h0)) y).trans ?_
    exact soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) ((hcond0_0 t).mpr h0) y
  · refine (congrFun (congrArg Prod.snd (outsAt0_B m c t h0)) y).trans ?_
    exact soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) _ (mt (hcond0_0 t).mp h0) y

/-- Rows of equal entries normalise equally. -/
theorem lnRow_congr {u u' g g' b b' : Fin 1024 → EReal} (hu : ∀ k, u k = u' k) (hg : ∀ k, g k = g' k) (hb : ∀ k, b k = b' k)
    (j : Fin 1024) : lnRow u g b j = lnRow u' g' b' j := by
  rw [funext hu, funext hg, funext hb]

/-- The output block after a grid point: its rows of the sequence's result. -/
theorem row_at (r : Fin 512) (j : Fin 1024) : (outsAt0 m c t.val t.isLt).1 (ix3 0 r j)
    = lnRow (fun k => seq (at3 (l := 16) (m := 2048) (n := 1024) (m ((c : Thread nD τ).loc main_arg0)) (t.val / 4))
        (at2 (m := 1024) (n := 5632) (m ((c : Thread nD τ).loc main_arg1)))
        (taps (m ((c : Thread nD τ).loc main_arg2)) (m ((c : Thread nD τ).loc main_arg3)))
        (at2 (m := 2816) (n := 1024) (m ((c : Thread nD τ).loc main_arg4))) (512 * (t.val % 4) + r) k)
      (fun k => m ((c : Thread nD τ).loc main_arg5) (ix1 k)) (fun k => m ((c : Thread nD τ).loc main_arg6) (ix1 k)) j := by
  by_cases h0 : t.val % 4 = 0
  · refine (congrFun (congrArg Prod.fst (outsAt0_A m c t h0)) _).trans ((outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) ((hcond0_0 t).mpr h0) r j).trans ?_)
    refine lnRow_congr (fun k => ?_) (g_at m c t) (b_at m c t) j
    rw [w_eq, t_eq, d_eq]
    refine acc_seq (i := t.val % 4) (fun _ hr _ hk => x_at m c t hr hk) (fun _ _ _ _ _ _ _ _ => ?_) r.isLt k.isLt
    rw [if_pos h0]
  · refine (congrFun (congrArg Prod.fst (outsAt0_B m c t h0)) _).trans ((outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) _ (mt (hcond0_0 t).mp h0) r j).trans ?_)
    refine lnRow_congr (fun k => ?_) (g_at m c t) (b_at m c t) j
    rw [w_eq, t_eq, d_eq]
    refine acc_seq (i := t.val % 4) (fun _ hr _ hk => x_at m c t hr hk) (fun e he s hs q hq n hn => ?_) r.isLt k.isLt
    have ht : t.val - 1 < cfg0.N := lt_of_le_of_lt (Nat.sub_le _ _) t.isLt
    rw [if_neg h0]
    unfold at3
    rw [dif_pos ⟨by omega, hq, hn⟩]
    refine (carry_at m c ⟨t.val - 1, ht⟩ _).trans ?_
    rw [w_eq]
    refine (up_seq (o := 512 * ((t.val - 1) % 4)) (fun k hk => x_at m c ⟨t.val - 1, ht⟩ (show 504 + q < 512 by omega) hk) _).trans ?_
    have e1 : (t.val - 1) / 4 = t.val / 4 := by omega
    have e2 : 512 * ((t.val - 1) % 4) + (504 + q) = 512 * (t.val % 4) + q - 8 := by omega
    have e3 : (4 * e + s) / 4 = e := by omega
    have e4 : (4 * e + s) % 4 = s := by omega
    show up (at3 _ ((t.val - 1) / 4)) _ (512 * ((t.val - 1) % 4) + (504 + q)) (col ((4 * e + s) / 4) ((4 * e + s) % 4) n) = _
    rw [e1, e2, e3, e4]
    rfl

/-- What the body leaves at a block index is the result at the array index the block index sits at. -/
theorem point (y : S1x512x1024.Idx) : (outsAt0 m c t.val t.isLt).1 y
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 6).blk t).view.emb y) := by
  obtain ⟨r, j, rfl⟩ : ∃ (r : Fin 512) (j : Fin 1024), y = ix3 0 r j := ⟨y 1, y 2, by blk_ext [idx t]⟩
  refine (row_at m c t r j).trans ?_
  unfold G
  have e0 : ((((cfg0.win 6).blk t).view.emb (ix3 0 r j)) 0).val = t.val / 4 := by
    blk_simp [idx t]
    exact Nat.add_zero _
  have e1 : ((((cfg0.win 6).blk t).view.emb (ix3 0 r j)) 1).val = 512 * (t.val % 4) + r.val := by
    blk_simp [idx t]
    exact congrArg (· + r.val) (Nat.mul_comm _ _)
  have e2 : (((cfg0.win 6).blk t).view.emb (ix3 0 r j)) 2 = j := by
    refine Fin.ext ?_
    blk_simp [idx t]
  rw [e0, e1, e2]
end

/-- The result array after the run. -/
theorem final (c : Dev nD) : (dats m 0 c).arrAt 6 (cfgs 0).N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t _ y => ?_
  blk_simp
  rw [after0_6]
  exact point m c t y

/-- The reference's result. -/
theorem ref_eq (X : FVec Ideal S16x2048x1024 .f32) (W : FVec Ideal S1024x5632 .f32) (K : FVec Ideal S3x1x5632 .f32)
    (B : FVec Ideal S5632 .f32) (D : FVec Ideal S2816x1024 .f32) (g b : FVec Ideal S1024 .f32) :
    Cert.FfnReferenceIdeal.Read.val_main_v69 (F := Ideal) X W K B D g b = G X W K B D g b := by
  funext i
  obtain ⟨a, s, j, rfl⟩ : ∃ (a : Fin 16) (s : Fin 2048) (j : Fin 1024), i = ix3 a s j := ⟨i 0, i 1, i 2, by blk_ext []⟩
  exact v69_at X W K B D g b a s j

end Cert.FfnV

end
-- ==== Proof.GatesMath.lean ====
module

public import proofs.«01_k».proof.Proof.MixMath
public import Idealize.ShloMosaic.Lib.Pipeline.ValueKit

@[expose] public section

set_option maxRecDepth 16384

noncomputable section

/-! The mathematics of the forget gates: the log sigmoid over the reals, running sums, and the columns a running sum is laid out in. -/

namespace Cert.GatesM

open Idealize.ShloMosaic Cert.Mix

/-- The log sigmoid as the kernel writes it. -/
def lsig (x : EReal) : EReal := min x 0 - Ideal.log1p (Ideal.exp (0 - max x (-x)))

/-- The log sigmoid as the reference writes it: minus the softplus of minus `x`. -/
def lsigRef (x : EReal) : EReal := -(max (-x) 0 + Ideal.log1p (Ideal.exp (-(max (-x) (- -x)))))

/-- The logarithm of one plus the exponential of minus an absolute value is real. -/
theorem log1p_real (a : ℝ) : Ideal.log1p (Ideal.exp (-(max (a : EReal) (-(a : EReal))))) = ((Real.log (1 + Real.exp (-(max a (-a)))) : ℝ) : EReal) := by
  have e : -(max (a : EReal) (-(a : EReal))) = ((-(max a (-a)) : ℝ) : EReal) := by
    rw [EReal.coe_neg, EReal.coe_strictMono.monotone.map_max, EReal.coe_neg]
  have p : ¬ (1 + Real.exp (-(max a (-a)))) ≤ 0 := not_le.mpr (by positivity)
  rw [e, Ideal.exp_coe]
  show Ideal.log (((1 : ℝ) : EReal) + _) = _
  rw [← EReal.coe_add, Ideal.log_coe, if_neg p]

/-- The logarithm of one plus the exponential of minus infinity is zero. -/
theorem log1p_top : Ideal.log1p (Ideal.exp (-(max (⊤ : EReal) (-⊤)))) = 0 := by
  have e : -(max (⊤ : EReal) (-⊤)) = ⊥ := by simp
  rw [e, Ideal.exp_bot]
  show Ideal.log (((1 : ℝ) : EReal) + 0) = 0
  rw [add_zero, Ideal.log_coe, if_neg (by norm_num), Real.log_one, EReal.coe_zero]

/-- Above minus infinity there are the reals and infinity. -/
theorem real_or_top {x : EReal} (h : x ≠ ⊥) : x = ⊤ ∨ IsR x := by
  induction x with
  | bot => exact absurd rfl h
  | top => exact Or.inl rfl
  | coe a => exact Or.inr ⟨a, rfl⟩

/-- The log sigmoid of infinity is zero. -/
theorem lsig_top : lsig ⊤ = 0 := by
  unfold lsig
  rw [zero_sub, log1p_top]
  simp

/-- The log sigmoid of anything above minus infinity is a real. -/
theorem lsig_real {x : EReal} (hx : x ≠ ⊥) : IsR (lsig x) := by
  obtain rfl | ⟨a, rfl⟩ := real_or_top hx
  · exact ⟨0, lsig_top⟩
  unfold lsig
  rw [zero_sub, log1p_real]
  refine IsR.sub ⟨min a 0, ?_⟩ ⟨_, rfl⟩
  rw [EReal.coe_strictMono.monotone.map_min, EReal.coe_zero]

/-- The two ways of writing the log sigmoid agree above minus infinity. -/
theorem lsig_eq {x : EReal} (hx : x ≠ ⊥) : lsigRef x = lsig x := by
  obtain rfl | ⟨a, rfl⟩ := real_or_top hx
  · rw [lsig_top]
    unfold lsigRef
    rw [neg_neg, max_comm (-(⊤ : EReal)) ⊤, log1p_top]
    simp
  unfold lsigRef lsig
  rw [zero_sub, neg_neg, max_comm (-(a : EReal)) (a : EReal), log1p_real]
  have e1 : max (-(a : EReal)) 0 = ((max (-a) 0 : ℝ) : EReal) := by
    rw [EReal.coe_strictMono.monotone.map_max, EReal.coe_neg, EReal.coe_zero]
  have e2 : min (a : EReal) 0 = ((min a 0 : ℝ) : EReal) := by
    rw [EReal.coe_strictMono.monotone.map_min, EReal.coe_zero]
  rw [e1, e2, ← EReal.coe_add, ← EReal.coe_neg, ← EReal.coe_sub]
  refine congrArg _ ?_
  have : max (-a) 0 = -(min a 0) := by rw [← max_neg_neg, neg_zero]
  rw [this]
  ring

/-- A real less itself is zero. -/
theorem sub_self_real {x : EReal} (h : IsR x) : x - x = 0 := by
  obtain ⟨a, rfl⟩ := h
  rw [← EReal.coe_sub, sub_self, EReal.coe_zero]

/-- The sum of the first terms of a sequence. -/
def run (e : ℕ → EReal) (n : ℕ) : EReal := ∑ t ∈ Finset.range n, e t

/-- Sums of reals are real. -/
theorem run_real (e : ℕ → EReal) (h : ∀ t, IsR (e t)) (n : ℕ) : IsR (run e n) := IsR.sum _ _ h

/-- A block's masked sum, over what came before the block, is the running sum. -/
theorem run_block (e : ℕ → EReal) (n : ℕ) (r : Fin 256) :
    (∑ x : Fin 256, if x.val ≤ r.val then e (n + x.val) else 0) + run e n = run e (n + r.val + 1) := by
  obtain ⟨r, br⟩ := r
  dsimp only
  rw [Fin.sum_univ_eq_sum_range (fun x => if x ≤ r then e (n + x) else 0) 256, show (256 : ℕ) = (r + 1) + (255 - r) by omega,
    Finset.sum_range_add, run, run, add_assoc n, Finset.sum_range_add _ n, add_comm]
  refine congrArg₂ _ rfl ?_
  rw [Finset.sum_eq_zero (s := Finset.range (255 - r)) fun x _ => if_neg (by omega), add_zero]
  exact Finset.sum_congr rfl fun x hx => if_pos (by have := Finset.mem_range.mp hx; omega)

/-- A window as long as the sequence, ending at place `s`, sums the terms up to `s`. -/
theorem run_window (e : ℕ → EReal) (s : Fin 2048) :
    (∑ k : Fin 2048, if 2047 ≤ s.val + k.val then e (s.val + k.val - 2047) else 0) = run e (s.val + 1) := by
  obtain ⟨s, bs⟩ := s
  dsimp only
  rw [Fin.sum_univ_eq_sum_range (fun k => if 2047 ≤ s + k then e (s + k - 2047) else 0) 2048, show (2048 : ℕ) = (2047 - s) + (s + 1) by omega,
    Finset.sum_range_add, Finset.sum_eq_zero fun x hx => if_neg (by have := Finset.mem_range.mp hx; omega), zero_add, run]
  refine Finset.sum_congr rfl fun x hx => ?_
  rw [if_pos (by omega)]
  exact congrArg e (by omega)

/-- A fold of additions is the sum of what is added. -/
theorem foldl_add {α : Type} (g : α → EReal) (l : List α) (v : EReal) : l.foldl (fun r n => r + g n) v = v + (l.map g).sum := by
  induction l generalizing v with
  | nil => simp
  | cons a l ih => simp [ih, add_assoc]

/-- The query columns of an even head whose running sum is `c`. -/
def qE (c : EReal) (l : ℕ) : EReal := if l = 0 then c else if l < 3 then 0 else if l < 6 then 1 else 0
/-- The query columns of an odd head whose running sum is `c`. -/
def qO (c : EReal) (l : ℕ) : EReal := if l = 6 then c else if l < 9 then 0 else if l < 12 then 1 else 0
/-- The key columns of a pair of heads whose running sums are `c` and `d`. -/
def kk (c d : EReal) (l : ℕ) : EReal :=
  if l < 3 then 1 else if l = 3 then -c else if l < 6 then 0 else if l < 9 then 1 else if l = 9 then -d else 0

/-- One row of the query columns: parity `p`, lane `l` of the two pairs' tiles side by side, the four heads' running sums `c`. -/
def qAt (c : Fin 4 → EReal) (p l : ℕ) : EReal :=
  if p < 1 then (if l < 128 then qE (c 0) l else qE (c 2) (l - 128)) else (if l < 128 then qO (c 1) l else qO (c 3) (l - 128))
/-- One row of the key columns. -/
def kAt (c : Fin 4 → EReal) (l : ℕ) : EReal := if l < 128 then kk (c 0) (c 1) l else kk (c 2) (c 3) (l - 128)

end Cert.GatesM

end
-- ==== Proof.GatesKernel.lean ====
module

public import proofs.«01_k».proof.Proof.Gen.GatesIdeal.Frame
public import proofs.«01_k».proof.Proof.GatesMath
public import Idealize.ShloMosaic.Lib.Pipeline.ValueKit

@[expose] public section

set_option maxRecDepth 16384

noncomputable section

/-! The forget gates' running sums: what the kernel's blocks hold. -/

namespace Cert.GatesV

open Idealize.ShloMosaic Idealize.ShloMosaic.TcCoe Idealize.SL.Sem
open Cert.Mix Cert.GatesM Cert.GatesIdeal Cert.GatesIdeal.Gen

/-- The lane numbers of a tile. -/
def lane : IVec S1x128 32 := iota .tc S1x128 32 [1] iota_S1x128_d1_w32

/-- One block of running sums: the triangular products of the block's log gates over the sums before it. -/
def step (X : Vec Ideal S1x256x128 .f32) (B : Vec Ideal S1x128 .f32) (off : FVec Ideal S1x128 .f32) : FVec Ideal S256x128 .f32 :=
  k0_pay59 k0_pay2 off (k0_pay56 X B) (k0_pay57 X B) k0_pay58

/-- The last row of a block. -/
def last (C : FVec Ideal S256x128 .f32) : FVec Ideal S1x128 .f32 := extractStridedSlice S1x128 ![255, 0] C slices_S256x128_o255_0_S1x128

/-- The first column of a block. -/
def col0 (C : FVec Ideal S256x128 .f32) : FVec Ideal S256x1 .f32 := extractStridedSlice S256x1 ![0, 0] C slices_S256x128_o0_0_S256x1

/-- The query columns of the first pair's even head. -/
def E0 (C : FVec Ideal S256x128 .f32) : FVec Ideal S1x1x256x128 .bf16 :=
  k0_pay29 (k0_pay23 lane (k0_pay7 (col0 C)) (k0_pay9 (col0 C)) (k0_pay10 (col0 C)))
/-- The query columns of the first pair's odd head. -/
def O0 (C : FVec Ideal S256x128 .f32) : FVec Ideal S1x1x256x128 .bf16 :=
  k0_pay30 lane (k0_pay12 C) (k0_pay14 C) (k0_pay15 C) (k0_pay24 lane) (k0_pay25 lane) (k0_pay26 lane) k0_pay27
/-- The query columns of the second pair's even head. -/
def E1 (C : FVec Ideal S256x128 .f32) : FVec Ideal S1x1x256x128 .bf16 :=
  k0_pay53 (k0_pay48 lane (k0_pay32 C) (k0_pay34 C) (k0_pay36 (k0_pay35 C)))
/-- The query columns of the second pair's odd head. -/
def O1 (C : FVec Ideal S256x128 .f32) : FVec Ideal S1x1x256x128 .bf16 :=
  k0_pay54 lane (k0_pay49 lane) (k0_pay50 lane) (k0_pay51 lane (k0_pay38 C) (k0_pay40 C) (k0_pay41 C)) 12#32
/-- The key columns of the first pair. -/
def K0 (C : FVec Ideal S256x128 .f32) : FVec Ideal S1x256x128 .bf16 :=
  k0_pay28 (k0_pay22 (k0_pay16 lane) (k0_pay17 lane) (k0_pay18 lane (col0 C)) (k0_pay19 lane) (k0_pay20 lane) (k0_pay21 lane C))
/-- The key columns of the second pair. -/
def K1 (C : FVec Ideal S256x128 .f32) : FVec Ideal S1x256x128 .bf16 :=
  k0_pay52 (k0_pay47 (k0_pay42 lane) (k0_pay43 lane) (k0_pay44 lane (k0_pay32 C) (k0_pay34 C) (k0_pay35 C)) (k0_pay45 lane) (k0_pay46 lane C))

/-- A comparison of a lane number against a threshold, as a choice. -/
theorem sel_lt {α : Type} (l : Fin 128) (n : ℕ) (hn : n < 128) (a b : α) :
    Scalar.select (IntOp.cmpi .slt (BitVec.ofNat 32 l.val) (BitVec.ofNat 32 n)) a b = if l.val < n then a else b := by
  rw [WordCmp.cmpi_slt_ofNat (by have := l.isLt; omega) (by omega)]
  by_cases h : l.val < n <;> simp [Scalar.select, h]

/-- An equality of a lane number with a lane, as a choice. -/
theorem sel_eq {α : Type} (l : Fin 128) (n : ℕ) (hn : n < 128) (a b : α) :
    Scalar.select (IntOp.cmpi .eq (BitVec.ofNat 32 l.val) (BitVec.ofNat 32 n)) a b = if l.val = n then a else b := by
  rw [WordCmp.cmpi_eq_ofNat (by have := l.isLt; omega) (by omega)]
  by_cases h : l.val = n <;> simp [Scalar.select, h]

/-- A comparison of two row numbers, as a choice. -/
theorem sel_le {α : Type} (x r : Fin 256) (a b : α) :
    Scalar.select (IntOp.cmpi .sle (BitVec.ofNat 32 x.val) (BitVec.ofNat 32 r.val)) a b = if x.val ≤ r.val then a else b := by
  rw [WordCmp.cmpi_sle_ofNat (by have := x.isLt; omega) (by have := r.isLt; omega)]
  by_cases h : x.val ≤ r.val <;> simp [Scalar.select, h]

/-- The first pair's even head. -/
theorem E0_at (C : FVec Ideal S256x128 .f32) (r : Fin 256) (l : Fin 128) (h : IsR (C (ix2 r 0))) : E0 C (ix4 0 0 r l) = qE (C (ix2 r 0)) l.val := by
  pointwise [E0, col0, lane, k0_pay29, k0_pay23, k0_pay7, k0_pay8, k0_pay9, k0_pay10, k0_pay6]
  rw [sub_self_real h, sub_zero, sel_lt l 3 (by decide), sel_lt l 6 (by decide), sel_eq l 0 (by decide), sel_eq l 1 (by decide)]
  unfold qE
  split_ifs <;> first | rfl | omega

/-- The second pair's even head. -/
theorem E1_at (C : FVec Ideal S256x128 .f32) (r : Fin 256) (l : Fin 128) (h : IsR (C (ix2 r 2))) : E1 C (ix4 0 0 r l) = qE (C (ix2 r 2)) l.val := by
  pointwise [E1, lane, k0_pay53, k0_pay48, k0_pay36, k0_pay35, k0_pay34, k0_pay33, k0_pay32, k0_pay31]
  rw [sub_self_real h, sub_zero, sel_lt l 3 (by decide), sel_lt l 6 (by decide), sel_eq l 0 (by decide), sel_eq l 1 (by decide)]
  unfold qE
  split_ifs <;> first | rfl | omega

/-- The first pair's odd head. -/
theorem O0_at (C : FVec Ideal S256x128 .f32) (r : Fin 256) (l : Fin 128) (h : IsR (C (ix2 r 1))) : O0 C (ix4 0 0 r l) = qO (C (ix2 r 1)) l.val := by
  pointwise [O0, lane, k0_pay30, k0_pay27, k0_pay26, k0_pay25, k0_pay24, k0_pay15, k0_pay14, k0_pay13, k0_pay12, k0_pay11]
  rw [sub_self_real h, sub_zero, sel_lt l 6 (by decide), sel_lt l 9 (by decide), sel_lt l 12 (by decide), sel_eq l 6 (by decide), sel_eq l 7 (by decide)]
  unfold qO
  split_ifs <;> first | rfl | omega

/-- The second pair's odd head. -/
theorem O1_at (C : FVec Ideal S256x128 .f32) (r : Fin 256) (l : Fin 128) (h : IsR (C (ix2 r 3))) : O1 C (ix4 0 0 r l) = qO (C (ix2 r 3)) l.val := by
  pointwise [O1, lane, k0_pay54, k0_pay51, k0_pay50, k0_pay49, k0_pay41, k0_pay40, k0_pay39, k0_pay38, k0_pay37]
  rw [sub_self_real h, sub_zero, sel_lt l 6 (by decide), sel_lt l 9 (by decide), sel_lt l 12 (by decide), sel_eq l 6 (by decide), sel_eq l 7 (by decide)]
  unfold qO
  split_ifs <;> first | rfl | omega

/-- The first pair's keys. -/
theorem K0_at (C : FVec Ideal S256x128 .f32) (r : Fin 256) (l : Fin 128) (h : IsR (C (ix2 r 0))) (g : IsR (C (ix2 r 1))) :
    K0 C (ix3 0 r l) = kk (C (ix2 r 0)) (C (ix2 r 1)) l.val := by
  pointwise [K0, col0, lane, k0_pay28, k0_pay22, k0_pay21, k0_pay20, k0_pay19, k0_pay18, k0_pay17, k0_pay16, k0_pay15, k0_pay14, k0_pay13, k0_pay12, k0_pay11, k0_pay10, k0_pay9, k0_pay8, k0_pay7, k0_pay6]
  rw [sub_self_real h, sub_self_real g]
  simp only [sub_zero, zero_sub, neg_zero]
  rw [sel_lt l 3 (by decide), sel_lt l 6 (by decide), sel_lt l 9 (by decide), sel_lt l 12 (by decide), sel_eq l 3 (by decide), sel_eq l 4 (by decide), sel_eq l 9 (by decide), sel_eq l 10 (by decide)]
  unfold kk
  split_ifs <;> first | rfl | omega | simp

/-- The second pair's keys. -/
theorem K1_at (C : FVec Ideal S256x128 .f32) (r : Fin 256) (l : Fin 128) (h : IsR (C (ix2 r 2))) (g : IsR (C (ix2 r 3))) :
    K1 C (ix3 0 r l) = kk (C (ix2 r 2)) (C (ix2 r 3)) l.val := by
  pointwise [K1, lane, k0_pay52, k0_pay47, k0_pay46, k0_pay45, k0_pay44, k0_pay43, k0_pay42, k0_pay41, k0_pay40, k0_pay39, k0_pay38, k0_pay37, k0_pay36, k0_pay35, k0_pay34, k0_pay33, k0_pay32, k0_pay31]
  rw [sub_self_real h, sub_self_real g]
  simp only [sub_zero, zero_sub, neg_zero]
  rw [sel_lt l 3 (by decide), sel_lt l 6 (by decide), sel_lt l 9 (by decide), sel_lt l 12 (by decide), sel_eq l 3 (by decide), sel_eq l 4 (by decide), sel_eq l 9 (by decide), sel_eq l 10 (by decide)]
  unfold kk
  split_ifs <;> first | rfl | omega | simp

/-- A block of running sums at an index. -/
theorem step_at (X : Vec Ideal S1x256x128 .f32) (B : Vec Ideal S1x128 .f32) (off : FVec Ideal S1x128 .f32) (r : Fin 256) (l : Fin 128)
    (h : ∀ x : Fin 256, X (ix3 0 x l) + B (ix2 0 l) ≠ ⊥) :
    step X B off (ix2 r l) = (∑ x : Fin 256, if x.val ≤ r.val then lsig (X (ix3 0 x l) + B (ix2 0 l)) else 0) + off (ix2 0 l) := by
  have h2 : ∀ x : Fin 256, lsig (X (ix3 0 x l) + B (ix2 0 l)) - lsig (X (ix3 0 x l) + B (ix2 0 l)) = 0 := fun x => sub_self_real (lsig_real (h x))
  have e : ∀ x : Fin 256, min (X (ix3 0 x l) + B (ix2 0 l)) 0 - Ideal.log1p (Ideal.exp (0 - FloatOps.absf (F := Ideal) (φ := .f32) (X (ix3 0 x l) + B (ix2 0 l)))) = lsig (X (ix3 0 x l) + B (ix2 0 l)) := fun x => rfl
  pointwise [step, k0_pay59, k0_pay2, k0_pay56, k0_pay57, k0_pay58, k0_pay55]
  simp only [e, h2, sel_le, sub_zero, ite_self, Finset.sum_const_zero, add_zero]

/-- The rows of block `n`. -/
def rows (n : ℕ) (x0 : Vec Ideal S1x2048x128 .f32) : Vec Ideal S1x256x128 .f32 := fun i => x0 (ix3 0 (Fin.ofNat 2048 (256 * n + (i 1).val)) (i 2))

/-- The blocks of running sums, each over the last row of the one before. -/
def C (x0 : Vec Ideal S1x2048x128 .f32) (x1 : Vec Ideal S1x128 .f32) : ℕ → FVec Ideal S256x128 .f32
  | 0 => step (rows 0 x0) x1 (fun _ => 0)
  | n + 1 => step (rows (n + 1) x0) x1 (last (C x0 x1 n))

/-- The log gates of one lane, one per row. -/
def gk (x0 : Vec Ideal S1x2048x128 .f32) (x1 : Vec Ideal S1x128 .f32) (l : Fin 128) (t : ℕ) : EReal := lsig (x0 (ix3 0 (Fin.ofNat 2048 t) l) + x1 (ix2 0 l))

/-- Block `n` of running sums at an index: the sum of all the gates up to that row. -/
theorem C_at (x0 : Vec Ideal S1x2048x128 .f32) (x1 : Vec Ideal S1x128 .f32) (l : Fin 128) (h : ∀ t : Fin 2048, x0 (ix3 0 t l) + x1 (ix2 0 l) ≠ ⊥) (n : ℕ) :
    ∀ r : Fin 256, C x0 x1 n (ix2 r l) = run (gk x0 x1 l) (256 * n + r.val + 1) := by
  induction n with
  | zero =>
    intro r
    exact (step_at _ _ _ r l fun x => h _).trans (run_block (gk x0 x1 l) (256 * 0) r)
  | succ n ih =>
    intro r
    refine (step_at _ _ _ r l fun x => h _).trans (Eq.trans ?_ (run_block (gk x0 x1 l) (256 * (n + 1)) r))
    refine congrArg₂ _ rfl ?_
    refine Eq.trans ?_ (ih 255)
    pointwise [last]

/-- The rows loaded for a block. -/
theorem ld_rows (x0 : Vec Ideal S1x2048x128 .f32) (n : ℕ) (hn : n < 8) (inb) : View.ld x0 (Rect.unit (s := S1x2048x128) ![0, 256 * n, 0] S1x256x128.size inb) = rows n x0 := by
  funext i
  rw [View.ld_apply]
  refine congrArg x0 (funext fun q => Fin.ext ?_)
  have b1 : (i 1).val < 256 := (i 1).isLt
  have b0 : (i 0).val < 1 := (i 0).isLt
  fin_cases q
  · simp
  · simp
    omega
  · simp

/-- The bias row, loaded whole. -/
theorem ld_bias (x1 : Vec Ideal S1x128 .f32) : View.ld x1 r0_1 = x1 := by
  funext i
  rw [View.ld_apply]
  refine congrArg x1 (funext fun q => Fin.ext ?_)
  fin_cases q <;> simp

section
variable (x0 : Vec Ideal S1x2048x128 .f32) (x1 : Vec Ideal S1x128 .f32)

/-- A block of the printed program is the block before it carried one step on. -/
theorem next (n : ℕ) (hn : n < 7) (inb) (P : FVec Ideal S256x128 .f32) (h : P = C x0 x1 n) :
    step (View.ld x0 (Rect.unit (s := S1x2048x128) ![0, 256 * (n + 1), 0] S1x256x128.size inb)) (View.ld x1 r0_1) (last P) = C x0 x1 (n + 1) := by
  rw [ld_rows x0 (n + 1) (by omega), ld_bias, h]
  rfl

/-- The printed sums of block 0. -/
theorem c0 : k0_pay419 x0 x1 = C x0 x1 0 := by
  have e : k0_pay419 x0 x1 = step (View.ld x0 r0_0) (View.ld x1 r0_1) (broadcast S1x128 (Scalar.ofBits .f32 0x00000000#32)) := rfl
  have z : (broadcast S1x128 (Scalar.ofBits .f32 0x00000000#32) : FVec Ideal S1x128 .f32) = fun _ => 0 := by
    funext i
    pointwise []
  rw [e, z, ld_rows x0 0 (by decide), ld_bias]
  rfl
/-- The printed sums of block 1. -/
theorem c1 : k0_pay428 x0 x1 = C x0 x1 1 := next x0 x1 0 (by decide) inb_S1x2048x128_S1x256x128_0_256_0 _ (c0 x0 x1)
/-- The printed sums of block 2. -/
theorem c2 : k0_pay440 x0 x1 = C x0 x1 2 := next x0 x1 1 (by decide) inb_S1x2048x128_S1x256x128_0_512_0 _ (c1 x0 x1)
/-- The printed sums of block 3. -/
theorem c3 : k0_pay449 x0 x1 = C x0 x1 3 := next x0 x1 2 (by decide) inb_S1x2048x128_S1x256x128_0_768_0 _ (c2 x0 x1)
/-- The printed sums of block 4. -/
theorem c4 : k0_pay461 x0 x1 = C x0 x1 4 := next x0 x1 3 (by decide) inb_S1x2048x128_S1x256x128_0_1024_0 _ (c3 x0 x1)
/-- The printed sums of block 5. -/
theorem c5 : k0_pay470 x0 x1 = C x0 x1 5 := next x0 x1 4 (by decide) inb_S1x2048x128_S1x256x128_0_1280_0 _ (c4 x0 x1)
/-- The printed sums of block 6. -/
theorem c6 : k0_pay482 x0 x1 = C x0 x1 6 := next x0 x1 5 (by decide) inb_S1x2048x128_S1x256x128_0_1536_0 _ (c5 x0 x1)
/-- The printed sums of block 7. -/
theorem c7 : k0_pay491 x0 x1 = C x0 x1 7 := next x0 x1 6 (by decide) inb_S1x2048x128_S1x256x128_0_1792_0 _ (c6 x0 x1)

/-- The query block as a list of tiles. -/
theorem out2_eq : out0_2 x0 x1 = View.canon [
    ⟨r0_56, O1 (k0_pay491 x0 x1)⟩, ⟨r0_55, E1 (k0_pay491 x0 x1)⟩, ⟨r0_53, O0 (k0_pay491 x0 x1)⟩, ⟨r0_52, E0 (k0_pay491 x0 x1)⟩,
    ⟨r0_49, O1 (k0_pay482 x0 x1)⟩, ⟨r0_48, E1 (k0_pay482 x0 x1)⟩, ⟨r0_46, O0 (k0_pay482 x0 x1)⟩, ⟨r0_45, E0 (k0_pay482 x0 x1)⟩,
    ⟨r0_42, O1 (k0_pay470 x0 x1)⟩, ⟨r0_41, E1 (k0_pay470 x0 x1)⟩, ⟨r0_39, O0 (k0_pay470 x0 x1)⟩, ⟨r0_38, E0 (k0_pay470 x0 x1)⟩,
    ⟨r0_35, O1 (k0_pay461 x0 x1)⟩, ⟨r0_34, E1 (k0_pay461 x0 x1)⟩, ⟨r0_32, O0 (k0_pay461 x0 x1)⟩, ⟨r0_31, E0 (k0_pay461 x0 x1)⟩,
    ⟨r0_28, O1 (k0_pay449 x0 x1)⟩, ⟨r0_27, E1 (k0_pay449 x0 x1)⟩, ⟨r0_25, O0 (k0_pay449 x0 x1)⟩, ⟨r0_24, E0 (k0_pay449 x0 x1)⟩,
    ⟨r0_21, O1 (k0_pay440 x0 x1)⟩, ⟨r0_20, E1 (k0_pay440 x0 x1)⟩, ⟨r0_18, O0 (k0_pay440 x0 x1)⟩, ⟨r0_17, E0 (k0_pay440 x0 x1)⟩,
    ⟨r0_14, O1 (k0_pay428 x0 x1)⟩, ⟨r0_13, E1 (k0_pay428 x0 x1)⟩, ⟨r0_11, O0 (k0_pay428 x0 x1)⟩, ⟨r0_10, E0 (k0_pay428 x0 x1)⟩,
    ⟨r0_7, O1 (k0_pay419 x0 x1)⟩, ⟨r0_6, E1 (k0_pay419 x0 x1)⟩, ⟨r0_4, O0 (k0_pay419 x0 x1)⟩, ⟨r0_3, E0 (k0_pay419 x0 x1)⟩] := rfl

/-- The key block as a list of tiles. -/
theorem out3_eq : out0_3 x0 x1 = View.canon [
    ⟨r0_54, K1 (k0_pay491 x0 x1)⟩, ⟨r0_51, K0 (k0_pay491 x0 x1)⟩, ⟨r0_47, K1 (k0_pay482 x0 x1)⟩, ⟨r0_44, K0 (k0_pay482 x0 x1)⟩,
    ⟨r0_40, K1 (k0_pay470 x0 x1)⟩, ⟨r0_37, K0 (k0_pay470 x0 x1)⟩, ⟨r0_33, K1 (k0_pay461 x0 x1)⟩, ⟨r0_30, K0 (k0_pay461 x0 x1)⟩,
    ⟨r0_26, K1 (k0_pay449 x0 x1)⟩, ⟨r0_23, K0 (k0_pay449 x0 x1)⟩, ⟨r0_19, K1 (k0_pay440 x0 x1)⟩, ⟨r0_16, K0 (k0_pay440 x0 x1)⟩,
    ⟨r0_12, K1 (k0_pay428 x0 x1)⟩, ⟨r0_9, K0 (k0_pay428 x0 x1)⟩, ⟨r0_5, K1 (k0_pay419 x0 x1)⟩, ⟨r0_2, K0 (k0_pay419 x0 x1)⟩] := rfl

/-- The first four lanes are above minus infinity. -/
def Open4 : Prop := ∀ (t : Fin 2048) (h : Fin 4), x0 (ix3 0 t (h.castLE (by decide))) + x1 (ix2 0 (h.castLE (by decide))) ≠ ⊥

/-- The four heads' running sums up to row `s`. -/
def sums (s : Fin 2048) (h : Fin 4) : EReal := run (gk x0 x1 (h.castLE (by decide))) (s.val + 1)

variable {x0 x1} (hr : Open4 x0 x1) {n : ℕ} {r : Fin 256} {l : Fin 128} {p : Fin 2} {s : Fin 2048} {L : Fin 256}
include hr

/-- A block's row holds the sums up to that row. -/
theorem C_sums (hs : s.val = 256 * n + r.val) (h : Fin 4) : C x0 x1 n (ix2 r (h.castLE (by decide))) = sums x0 x1 s h :=
  (C_at x0 x1 _ (fun t => hr t h) n r).trans (congrArg (fun q => run _ (q + 1)) hs.symm)

/-- The sums are real. -/
theorem C_real (h : Fin 4) : IsR (C x0 x1 n (ix2 r (h.castLE (by decide)))) := by
  rw [C_at x0 x1 _ (fun t => hr t h) n r]
  exact run_real _ (fun t => lsig_real (hr _ h)) _

/-- The first pair's even head, over the sums. -/
theorem e0 (hp : p.val = 0) (hs : s.val = 256 * n + r.val) (hL : L.val = 0 + l.val) : E0 (C x0 x1 n) (ix4 0 0 r l) = qAt (sums x0 x1 s) p.val L.val := by
  refine (E0_at _ r l (C_real hr 0)).trans ?_
  unfold qAt
  rw [if_pos (by omega), if_pos (by omega), hL, zero_add]
  exact congrArg (qE · l.val) (C_sums hr hs 0)

/-- The second pair's even head, over the sums. -/
theorem e1 (hp : p.val = 0) (hs : s.val = 256 * n + r.val) (hL : L.val = 128 + l.val) : E1 (C x0 x1 n) (ix4 0 0 r l) = qAt (sums x0 x1 s) p.val L.val := by
  refine (E1_at _ r l (C_real hr 2)).trans ?_
  unfold qAt
  rw [if_pos (by omega), if_neg (by omega), hL, Nat.add_sub_cancel_left]
  exact congrArg (qE · l.val) (C_sums hr hs 2)

/-- The first pair's odd head, over the sums. -/
theorem o0 (hp : p.val = 1) (hs : s.val = 256 * n + r.val) (hL : L.val = 0 + l.val) : O0 (C x0 x1 n) (ix4 0 0 r l) = qAt (sums x0 x1 s) p.val L.val := by
  refine (O0_at _ r l (C_real hr 1)).trans ?_
  unfold qAt
  rw [if_neg (by omega), if_pos (by omega), hL, zero_add]
  exact congrArg (qO · l.val) (C_sums hr hs 1)

/-- The second pair's odd head, over the sums. -/
theorem o1 (hp : p.val = 1) (hs : s.val = 256 * n + r.val) (hL : L.val = 128 + l.val) : O1 (C x0 x1 n) (ix4 0 0 r l) = qAt (sums x0 x1 s) p.val L.val := by
  refine (O1_at _ r l (C_real hr 3)).trans ?_
  unfold qAt
  rw [if_neg (by omega), if_neg (by omega), hL, Nat.add_sub_cancel_left]
  exact congrArg (qO · l.val) (C_sums hr hs 3)

/-- The first pair's keys, over the sums. -/
theorem k0 (hs : s.val = 256 * n + r.val) (hL : L.val = 0 + l.val) : K0 (C x0 x1 n) (ix3 0 r l) = kAt (sums x0 x1 s) L.val := by
  refine (K0_at _ r l (C_real hr 0) (C_real hr 1)).trans ?_
  unfold kAt
  rw [if_pos (by omega), hL, zero_add]
  exact congrArg₂ (kk · · l.val) (C_sums hr hs 0) (C_sums hr hs 1)

/-- The second pair's keys, over the sums. -/
theorem k1 (hs : s.val = 256 * n + r.val) (hL : L.val = 128 + l.val) : K1 (C x0 x1 n) (ix3 0 r l) = kAt (sums x0 x1 s) L.val := by
  refine (K1_at _ r l (C_real hr 2) (C_real hr 3)).trans ?_
  unfold kAt
  rw [if_neg (by omega), hL, Nat.add_sub_cancel_left]
  exact congrArg₂ (kk · · l.val) (C_sums hr hs 2) (C_sums hr hs 3)

seal E0 E1 O0 O1 K0 K1 C

/-- The query block: every row's columns, over the sums up to that row. -/
theorem out2_at (p : Fin 2) (s : Fin 2048) (L : Fin 256) : out0_2 x0 x1 (ix4 0 p s L) = qAt (sums x0 x1 s) p.val L.val := by
  rw [out2_eq, c7, c6, c5, c4, c3, c2, c1, c0]
  canon_tiles x h using (cover0_2 (F := Ideal) _ _ _ _ _ _ _ _ _ _ _ _ _ _ _ _ _ _ _ _ _ _ _ _ _ _ _ _ _ _ _ _ _)
  all_goals
    obtain ⟨r, l, rfl⟩ : ∃ (r : Fin 256) (l : Fin 128), x = ix4 0 0 r l := ⟨x 2, x 3, by blk_ext []⟩
    first
    | exact e0 hr h1 (by first | exact h2 | exact h2.trans (Nat.zero_add _).symm) (by first | exact h3 | exact h3.trans (Nat.zero_add _).symm)
    | exact e1 hr h1 (by first | exact h2 | exact h2.trans (Nat.zero_add _).symm) (by first | exact h3 | exact h3.trans (Nat.zero_add _).symm)
    | exact o0 hr h1 (by first | exact h2 | exact h2.trans (Nat.zero_add _).symm) (by first | exact h3 | exact h3.trans (Nat.zero_add _).symm)
    | exact o1 hr h1 (by first | exact h2 | exact h2.trans (Nat.zero_add _).symm) (by first | exact h3 | exact h3.trans (Nat.zero_add _).symm)

/-- The key block: every row's columns, over the sums up to that row. -/
theorem out3_at (s : Fin 2048) (L : Fin 256) : out0_3 x0 x1 (ix3 0 s L) = kAt (sums x0 x1 s) L.val := by
  rw [out3_eq, c7, c6, c5, c4, c3, c2, c1, c0]
  canon_tiles x h using (cover0_3 (F := Ideal) _ _ _ _ _ _ _ _ _ _ _ _ _ _ _ _ _)
  all_goals
    obtain ⟨r, l, rfl⟩ : ∃ (r : Fin 256) (l : Fin 128), x = ix3 0 r l := ⟨x 1, x 2, by blk_ext []⟩
    first
    | exact k0 hr (by first | exact h1 | exact h1.trans (Nat.zero_add _).symm) (by first | exact h2 | exact h2.trans (Nat.zero_add _).symm)
    | exact k1 hr (by first | exact h1 | exact h1.trans (Nat.zero_add _).symm) (by first | exact h2 | exact h2.trans (Nat.zero_add _).symm)

end

end Cert.GatesV

end
-- ==== Proof.GatesRef.lean ====
module

public import proofs.«01_k».proof.Proof.Gen.GatesReferenceIdeal.Read
public import proofs.«01_k».proof.Proof.GatesMath

@[expose] public section

set_option maxRecDepth 16384

noncomputable section

/-! What the reference of the forget gates holds at an index. -/

namespace Cert.GatesRef

open Idealize.ShloMosaic Idealize.ShloMosaic.TcCoe Idealize.SL.Sem
open Cert.Mix Cert.GatesM Cert.GatesReferenceIdeal Cert.GatesReferenceIdeal.Read

/-- The log gates of one batch entry and head, one per row. -/
def gate (f : FVec Ideal S16x2048x128 .f32) (b : FVec Ideal S4 .f32) (i : Fin 16) (h : Fin 4) (t : ℕ) : EReal :=
  lsig (f (ix3 i (Fin.ofNat 2048 t) (h.castLE (by decide))) + b (ix1 h))

/-- The log gates at an index. -/
theorem log_at (f : FVec Ideal S16x2048x128 .f32) (b : FVec Ideal S4 .f32) (i : Fin 16) (s : Fin 2048) (h : Fin 4) :
    val_main_v4 (F := Ideal) f b (ix3 i s h) = lsigRef (f (ix3 i s (h.castLE (by decide))) + b (ix1 h)) := by
  pointwise [val_main_v4, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v3, val_main_v2, val_main_v1, val_main_v0]
  exact congrArg Neg.neg (if_neg fun g => g rfl)

/-- The cumulative sum along the rows. -/
theorem cumsum_at (x : FVec Ideal S16x2048x4 .f32) (init : FVec Ideal S_ .f32) (hi : ∀ j, init j = 0) (h h') (i : Fin 16) (s : Fin 2048) (k : Fin 4) :
    Host.reduceWindowAdd ![1, 2048, 1] ![1, 1, 1] ![0, 2047, 0] ![0, 0, 0] x init h h' (ix3 i s k)
      = run (fun t => x (ix3 i (Fin.ofNat 2048 t) k)) (s.val + 1) := by
  show Ideal.hostReduceWindowAdd ![1, 2048, 1] ![1, 1, 1] ![0, 2047, 0] ![0, 0, 0] h x (init (Shape.Idx.first h')) (ix3 i s k) = _
  rw [hi]
  unfold Ideal.hostReduceWindowAdd Host.reduceWindow
  dsimp only
  refine (foldl_add _ _ _).trans ?_
  rw [zero_add, ← Fin.sum_univ_def, ← run_window]
  let e : (⟨3, ![1, 2048, 1]⟩ : Shape).Idx ≃ Fin 2048 := ⟨fun w => w 1, fun n => ix3 0 n 0, fun w => by blk_ext [], fun n => rfl⟩
  refine Fintype.sum_equiv ((⟨3, ![1, 2048, 1]⟩ : Shape).rowMajor.symm.trans e) _ _ fun n => ?_
  let w : (⟨3, ![1, 2048, 1]⟩ : Shape).Idx := (⟨3, ![1, 2048, 1]⟩ : Shape).rowMajor.symm n
  have b0 : (w 0).val < 1 := (w 0).isLt
  have b1 : (w 1).val < 2048 := (w 1).isLt
  have b2 : (w 2).val < 1 := (w 2).isLt
  have bs := s.isLt
  by_cases hk : 2047 ≤ s.val + (w 1).val
  · refine Eq.trans ((dif_pos fun a => ?_).trans (congrArg x (funext fun a => Fin.ext ?_))) (if_pos hk).symm
    · fin_cases a
      · show 0 ≤ i.val * 1 + (w 0).val ∧ i.val * 1 + (w 0).val - 0 < 16
        omega
      · show 2047 ≤ s.val * 1 + (w 1).val ∧ s.val * 1 + (w 1).val - 2047 < 2048
        omega
      · show 0 ≤ k.val * 1 + (w 2).val ∧ k.val * 1 + (w 2).val - 0 < 4
        omega
    · fin_cases a
      · show i.val * 1 + (w 0).val - 0 = i.val
        omega
      · show s.val * 1 + (w 1).val - 2047 = (s.val + (w 1).val - 2047) % 2048
        omega
      · show k.val * 1 + (w 2).val - 0 = k.val
        omega
  · refine (dif_neg fun g => hk ?_).trans (if_neg hk).symm
    have g1 : 2047 ≤ s.val * 1 + (w 1).val := (g 1).1
    omega

/-- The running sums at an index. -/
theorem sums_at (f : FVec Ideal S16x2048x128 .f32) (b : FVec Ideal S4 .f32) (i : Fin 16) (s : Fin 2048) (h : Fin 4)
    (hr : ∀ t, f (ix3 i t (h.castLE (by decide))) + b (ix1 h) ≠ ⊥) :
    val_main_v5 (F := Ideal) f b (ix3 i s h) = run (gate f b i h) (s.val + 1) := by
  unfold val_main_v5
  refine (cumsum_at _ _ (fun j => ?_) _ _ i s h).trans (Finset.sum_congr rfl fun t _ => ?_)
  · pointwise [val_main_call1_call0_v0, val_main_call1_call0_cst]
  · exact (log_at f b i _ h).trans (lsig_eq (hr _))

/-- The query columns at an index, over the running sums. -/
theorem q_at (f : FVec Ideal S16x2048x128 .f32) (b : FVec Ideal S4 .f32) (i : Fin 16) (p : Fin 2) (s : Fin 2048) (l : Fin 256) :
    val_main_v24 (F := Ideal) f b (ix4 i p s l) = qAt (fun h => val_main_v5 (F := Ideal) f b (ix3 i s h)) p.val l.val := by
  pointwise [val_main_v24, val_main_v23, val_main_v22, val_main_v21, val_main_v15, val_main_v14, val_main_v13, val_main_v12, val_main_v11, val_main_v10, val_main_v9, val_main_v8, val_main_v7, val_main_v6, val_main_cst, val_main_cst_0, val_main_cst_1, val_main_cst_2]
  unfold qAt qE qO
  generalize val_main_v5 (F := Ideal) f b = v
  have bl := l.isLt
  by_cases hp : p.val < 1
  · rw [dif_pos hp, if_pos hp]
    obtain g | g | g | g | g | g | g | g | g | g : l.val < 1 ∨ (1 ≤ l.val ∧ l.val < 3) ∨ (3 ≤ l.val ∧ l.val < 6) ∨ (6 ≤ l.val ∧ l.val < 12) ∨ (12 ≤ l.val ∧ l.val < 128) ∨ l.val = 128 ∨ (129 ≤ l.val ∧ l.val < 131) ∨ (131 ≤ l.val ∧ l.val < 134) ∨ (134 ≤ l.val ∧ l.val < 140) ∨ 140 ≤ l.val := by omega
    all_goals simp (disch := omega) only [dif_pos, dif_neg, if_pos, if_neg]
    all_goals first | rfl | exact congrArg (fun q => v (ix3 i s q)) (Fin.ext (by dsimp; omega))
  · rw [dif_neg hp, if_neg hp]
    obtain g | g | g | g | g | g | g | g | g | g : l.val < 6 ∨ l.val = 6 ∨ (7 ≤ l.val ∧ l.val < 9) ∨ (9 ≤ l.val ∧ l.val < 12) ∨ (12 ≤ l.val ∧ l.val < 128) ∨ (128 ≤ l.val ∧ l.val < 134) ∨ l.val = 134 ∨ (135 ≤ l.val ∧ l.val < 137) ∨ (137 ≤ l.val ∧ l.val < 140) ∨ 140 ≤ l.val := by omega
    all_goals simp (disch := omega) only [dif_pos, dif_neg, if_pos, if_neg]
    all_goals first | rfl | exact congrArg (fun q => v (ix3 i s q)) (Fin.ext (by dsimp; omega))

/-- The key columns at an index, over the running sums. -/
theorem k_at (f : FVec Ideal S16x2048x128 .f32) (b : FVec Ideal S4 .f32) (i : Fin 16) (s : Fin 2048) (l : Fin 256) :
    val_main_v25 (F := Ideal) f b (ix3 i s l) = kAt (fun h => val_main_v5 (F := Ideal) f b (ix3 i s h)) l.val := by
  pointwise [val_main_v25, val_main_v20, val_main_v19, val_main_v18, val_main_v17, val_main_v16, val_main_v13, val_main_v12, val_main_v11, val_main_v10, val_main_v9, val_main_v8, val_main_v7, val_main_v6, val_main_cst, val_main_cst_0, val_main_cst_1, val_main_cst_2]
  unfold kAt kk
  generalize val_main_v5 (F := Ideal) f b = v
  have bl := l.isLt
  obtain g | g | g | g | g | g | g | g | g | g | g | g | g | g : l.val < 3 ∨ l.val = 3 ∨ (4 ≤ l.val ∧ l.val < 6) ∨ (6 ≤ l.val ∧ l.val < 9) ∨ l.val = 9 ∨ (10 ≤ l.val ∧ l.val < 12) ∨ (12 ≤ l.val ∧ l.val < 128) ∨ (128 ≤ l.val ∧ l.val < 131) ∨ l.val = 131 ∨ (132 ≤ l.val ∧ l.val < 134) ∨ (134 ≤ l.val ∧ l.val < 137) ∨ l.val = 137 ∨ (138 ≤ l.val ∧ l.val < 140) ∨ 140 ≤ l.val := by omega
  all_goals simp (disch := omega) only [dif_pos, dif_neg, if_pos, if_neg]
  all_goals first | rfl | exact congrArg (fun q => -v (ix3 i s q)) (Fin.ext (by dsimp; omega))

end Cert.GatesRef

end
-- ==== Proof.GatesValue.lean ====
module

public import proofs.«01_k».proof.Proof.GatesKernel
public import proofs.«01_k».proof.Proof.GatesRef
public import proofs.«01_k».proof.Proof.Gen.GatesIdeal.Value

@[expose] public section

set_option maxRecDepth 16384

noncomputable section

/-! The forget gates' call: the two result arrays after the run, and the reference's. -/

namespace Cert.GatesV

open Idealize.ShloMosaic Idealize.ShloMosaic.TcCoe Idealize.SL.Sem
open Idealize.ShloMosaic.Pipeline (Dat)
open Cert.Mix Cert.GatesM Cert.GatesIdeal Cert.GatesIdeal.Gen

variable (m : (ℓ : Loc nD τ sig) → Buf (Elt Ideal) ℓ)

/-- The block index of every window at every grid point. -/
theorem idx : ∀ t : Fin cfg0.N, win0_0.index t = ![t.val, 0, 0] ∧ win0_1.index t = ![0, 0] ∧ win0_2.index t = ![t.val, 0, 0, 0] ∧ win0_3.index t = ![t.val, 0, 0] :=
  (by decide +kernel : ∀ t : Fin grid0.N, _)

/-- The gate logits' block at a grid point. -/
theorem iblk0_at (c : Dev nD) (t : Fin cfg0.N) (s : Fin 2048) (l : Fin 128) :
    iblk m c 0 t (ix3 0 s l) = (m ((c : Thread nD τ).loc main_arg0) : FVec Ideal S16x2048x128 .f32) (ix3 ⟨t.val, t.isLt⟩ s l) := by
  blk_point [iblk, V, idx t]

/-- The bias as the call takes it: padded with zeros to a row of lanes. -/
def padded (b : FVec Ideal S4 .f32) : FVec Ideal S1x128 .f32 :=
  shapeCast S1x128 (pad S128 ![0] ![124] ![0] b (sitofp .f32 (constantI S_ 32 0#32)) pads_S4_S128_01240 h_S_) shapeCasts_S128_S1x128

/-- Its first four lanes are the bias. -/
theorem padded_at (b : FVec Ideal S4 .f32) (h : Fin 4) : padded b (ix2 0 (h.castLE (by decide))) = b (ix1 h) := by
  have bh := h.isLt
  pointwise [padded, bh]
  exact dif_pos bh

/-- The bias row at a grid point. -/
theorem iblk1_at (c : Dev nD) (t : Fin cfg0.N) (h : Fin 4) :
    iblk m c 1 t (ix2 0 (h.castLE (by decide))) = (m ((c : Thread nD τ).loc main_arg1) : FVec Ideal S4 .f32) (ix1 h) := by
  rw [← padded_at (m ((c : Thread nD τ).loc main_arg1)) h]
  unfold iblk
  have e : V m c (Pipeline.arrRef spec0 1) = padded (m ((c : Thread nD τ).loc main_arg1)) := by
    first
    | rfl
    | (entry_read; rfl)
  rw [e]
  generalize padded (m ((c : Thread nD τ).loc main_arg1)) = Z
  blk_point [idx t]

/-- The query columns over the two arrays. -/
def GQ (f : FVec Ideal S16x2048x128 .f32) (b : FVec Ideal S4 .f32) : FVec Ideal S16x2x2048x256 .bf16 := fun i =>
  qAt (fun h => run (Cert.GatesRef.gate f b (i 0) h) ((i 2).val + 1)) (i 1).val (i 3).val

/-- The key columns over the two arrays. -/
def GK (f : FVec Ideal S16x2048x128 .f32) (b : FVec Ideal S4 .f32) : FVec Ideal S16x2048x256 .bf16 := fun i =>
  kAt (fun h => run (Cert.GatesRef.gate f b (i 0) h) ((i 1).val + 1)) (i 2).val

/-- The gate logits of the four heads, with their bias, are above minus infinity. -/
def OpenIn (f : FVec Ideal S16x2048x128 .f32) (b : FVec Ideal S4 .f32) : Prop :=
  ∀ (i : Fin 16) (t : Fin 2048) (h : Fin 4), f (ix3 i t (h.castLE (by decide))) + b (ix1 h) ≠ ⊥

section
variable (c : Dev nD) (hr : OpenIn (m ((c : Thread nD τ).loc main_arg0)) (m ((c : Thread nD τ).loc main_arg1)))
include hr

/-- The blocks' lanes are above minus infinity. -/
theorem open4 (t : Fin cfg0.N) : Open4 (iblk m c 0 t) (iblk m c 1 t) := fun s h => by
  rw [iblk0_at, iblk1_at]
  exact hr ⟨t.val, t.isLt⟩ s h

omit hr in
/-- A block's running sums are the arrays'. -/
theorem sums_eq (t : Fin cfg0.N) (s : Fin 2048) : sums (iblk m c 0 t) (iblk m c 1 t) s
    = fun h => run (Cert.GatesRef.gate (m ((c : Thread nD τ).loc main_arg0)) (m ((c : Thread nD τ).loc main_arg1)) ⟨t.val, t.isLt⟩ h) (s.val + 1) := by
  funext h
  refine congrArg (fun g => run g (s.val + 1)) (funext fun k => ?_)
  unfold gk Cert.GatesRef.gate
  rw [iblk0_at, iblk1_at]

/-- The query columns after the run. -/
theorem final2 : (dats m 0 c).arrAt 2 (cfgs 0).N = GQ (m ((c : Thread nD τ).loc main_arg0)) (m ((c : Thread nD τ).loc main_arg1)) := by
  refine (dats m 0 c).arrAt_eq_of_covers 2 _ (by decide +kernel) fun t _ y => ?_
  blk_simp
  rw [after0_2]
  obtain ⟨p, s, l, rfl⟩ : ∃ (p : Fin 2) (s : Fin 2048) (l : Fin 256), y = ix4 0 p s l := ⟨y 1, y 2, y 3, by blk_ext [idx t]⟩
  have e : ((cfg0.win 2).blk t).view.emb (ix4 0 p s l) = ix4 ⟨t.val, t.isLt⟩ p s l := by blk_ext [idx t]
  refine (out2_at (open4 m c hr t) p s l).trans ?_
  rw [sums_eq]
  exact (congrArg (GQ (m ((c : Thread nD τ).loc main_arg0)) (m ((c : Thread nD τ).loc main_arg1))) e).symm

/-- The key columns after the run. -/
theorem final3 : (dats m 0 c).arrAt 3 (cfgs 0).N = GK (m ((c : Thread nD τ).loc main_arg0)) (m ((c : Thread nD τ).loc main_arg1)) := by
  refine (dats m 0 c).arrAt_eq_of_covers 3 _ (by decide +kernel) fun t _ y => ?_
  blk_simp
  rw [after0_3]
  obtain ⟨s, l, rfl⟩ : ∃ (s : Fin 2048) (l : Fin 256), y = ix3 0 s l := ⟨y 1, y 2, by blk_ext [idx t]⟩
  have e : ((cfg0.win 3).blk t).view.emb (ix3 0 s l) = ix3 ⟨t.val, t.isLt⟩ s l := by blk_ext [idx t]
  refine (out3_at (open4 m c hr t) s l).trans ?_
  rw [sums_eq]
  exact (congrArg (GK (m ((c : Thread nD τ).loc main_arg0)) (m ((c : Thread nD τ).loc main_arg1))) e).symm

end

/-- The reference's query columns. -/
theorem ref2_eq (f : FVec Ideal S16x2048x128 .f32) (b : FVec Ideal S4 .f32) (hr : OpenIn f b) :
    Cert.GatesReferenceIdeal.Read.val_main_v24 (F := Ideal) f b = GQ f b := by
  funext i
  obtain ⟨j, p, s, l, rfl⟩ : ∃ (j : Fin 16) (p : Fin 2) (s : Fin 2048) (l : Fin 256), i = ix4 j p s l := ⟨i 0, i 1, i 2, i 3, by blk_ext []⟩
  refine (Cert.GatesRef.q_at f b j p s l).trans (congrArg (fun c => qAt c p.val l.val) (funext fun h => ?_))
  exact Cert.GatesRef.sums_at f b j s h fun t => hr j t h

/-- The reference's key columns. -/
theorem ref3_eq (f : FVec Ideal S16x2048x128 .f32) (b : FVec Ideal S4 .f32) (hr : OpenIn f b) :
    Cert.GatesReferenceIdeal.Read.val_main_v25 (F := Ideal) f b = GK f b := by
  funext i
  obtain ⟨j, s, l, rfl⟩ : ∃ (j : Fin 16) (s : Fin 2048) (l : Fin 256), i = ix3 j s l := ⟨i 0, i 1, i 2, by blk_ext []⟩
  refine (Cert.GatesRef.k_at f b j s l).trans (congrArg (fun c => kAt c l.val) (funext fun h => ?_))
  exact Cert.GatesRef.sums_at f b j s h fun t => hr j t h

end Cert.GatesV

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvIdeal.Value
public import proofs.«01_k».proof.Proof.Gen.MemkvReferenceIdeal
public import proofs.«01_k».proof.Proof.Gen.MemkvReferenceIdeal.Run
public import proofs.«01_k».proof.Proof.Gen.MemkvReferenceIdeal.Read
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Launch
public import proofs.«01_k».proof.Proof.Gen.PackIdeal.Points
public import proofs.«01_k».proof.Proof.Gen.PackIdeal.Frame
public import proofs.«01_k».proof.Proof.Gen.PackIdeal.Value
public import proofs.«01_k».proof.Proof.Gen.PackReferenceIdeal
public import proofs.«01_k».proof.Proof.Gen.PackReferenceIdeal.Run
public import proofs.«01_k».proof.Proof.Gen.PackReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.MixValue
public import proofs.«01_k».proof.Proof.MixRef
public import proofs.«01_k».proof.Proof.MixPre
public import proofs.«01_k».proof.Proof.InprojValue
public import proofs.«01_k».proof.Proof.MemkvValue
public import proofs.«01_k».proof.Proof.PackValue
public import proofs.«01_k».proof.Proof.FfnValue
public import proofs.«01_k».proof.Proof.Gen.GatesIdeal.Value
public import proofs.«01_k».proof.Proof.GatesValue
public import proofs.«01_k».proof.Proof.Gen.GatesReferenceIdeal.Run
public import proofs.«01_k».proof.Proof.Gen.GatesReferenceIdeal.Read
public import proofs.«01_k».proof.Proof.Gen.Gates.Frame
public import Idealize.ShloMosaic.Lib.Pipeline.ValueKit
public import Idealize.ShloMosaic.Adequacy
public import Idealize.ShloMosaic.Init

@[expose] public section

noncomputable section

namespace Cert.Proof

set_option maxRecDepth 16384

open Idealize.ShloMosaic Idealize.ShloMosaic.TcCoe Idealize.SL.Sem Cert.Mix

/-- The side conditions of the precondition's operations. -/
instance preFacts : Cert.Pre_finite.Facts where
  bcast_S_S1024 := by decide
  bitsLt_bf16_f32 := by decide
  bcast_S_S16x256x2048 := by decide
  bcast_S_S1024x1024 := by decide

instance gatesPreFacts : Cert.Pre_open_gates.Facts where
  slices_S16x2048x128_S16x2048x4_0_0_0 := by decide
  bcast_S_S16x2048x4 := by decide
  bcast_S_S4 := by decide

/-- The reference runs, leaves its arguments and ends with every counter at zero. -/
theorem ref_frame : quiescent_ReferenceIdeal := by
  intro m g _
  exact (θ_run Cert.ReferenceIdeal.defs _ _).mono (fun r h => ⟨fun c => (h c).2,
    Idealize.ShloMosaic.sem_eq_zero_of_no_sems (by decide) r.2⟩) (Cert.ReferenceIdeal.Value.run m g)

/-- The projections' reference runs, leaves its arguments and ends with every counter at zero. -/
theorem inproj_ref_frame : quiescent_InprojReferenceIdeal := by
  intro m g _
  exact (θ_run Cert.InprojReferenceIdeal.defs _ _).mono (fun r h => ⟨fun c => (h c).2.2,
    Idealize.ShloMosaic.sem_eq_zero_of_no_sems (by decide) r.2⟩) (Cert.InprojReferenceIdeal.Value.run m g)

/-- The memory projection's reference runs, leaves its arguments and ends with every counter at zero. -/
theorem memkv_ref_frame : quiescent_MemkvReferenceIdeal := by
  intro m g _
  exact (θ_run Cert.MemkvReferenceIdeal.defs _ _).mono (fun r h => ⟨fun c => (h c).2,
    Idealize.ShloMosaic.sem_eq_zero_of_no_sems (by decide) r.2⟩) (Cert.MemkvReferenceIdeal.Value.run m g)

/-- The packing's reference runs, leaves its arguments and ends with every counter at zero. -/
theorem pack_ref_frame : quiescent_PackReferenceIdeal := by
  intro m g _
  exact (θ_run Cert.PackReferenceIdeal.defs _ _).mono (fun r h => ⟨fun c => (h c).2.2,
    Idealize.ShloMosaic.sem_eq_zero_of_no_sems (by decide) r.2⟩) (Cert.PackReferenceIdeal.Value.run m g)

/-- The feed-forward block's reference runs, leaves its arguments and ends with every counter at zero. -/
theorem ffn_ref_frame : quiescent_FfnReferenceIdeal := by
  intro m g _
  exact (θ_run Cert.FfnReferenceIdeal.defs _ _).mono (fun r h => ⟨fun c => (h c).2,
    Idealize.ShloMosaic.sem_eq_zero_of_no_sems (by decide) r.2⟩) (Cert.FfnReferenceIdeal.Value.run m g)

/-- The forget gates' reference runs, leaves its arguments and ends with every counter at zero. -/
theorem gates_ref_frame : quiescent_GatesReferenceIdeal := by
  intro m g _
  exact (θ_run Cert.GatesReferenceIdeal.defs _ _).mono (fun r h => ⟨fun c => (h c).2.2,
    Idealize.ShloMosaic.sem_eq_zero_of_no_sems (by decide) r.2⟩) (Cert.GatesReferenceIdeal.Value.run m g)

/-- Over equal arguments of which the precondition holds, the reference's result is the kernel's result array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    :
    Cert.ReferenceIdeal.Read.val_main_v81 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = (Cert.KernelIdeal.Gen.dats m 0 c).arrAt 12 (Cert.KernelIdeal.cfgs 0).N := by
  rw [Cert.MixV.final m c, h0, h1, h2, h3, h4, h5, h6, h7, h8, h9, h10, h11]
  obtain ⟨p1, p2, p3, p4⟩ := hpre c
  funext i
  obtain ⟨b, s, k, rfl⟩ : ∃ (b : Fin 16) (s : Fin 2048) (k : Fin 1024), i = ix3 b s k :=
    ⟨i 0, i 1, i 2, by blk_ext []⟩
  refine (Cert.MixR.result_at _ _ _ _ _ _ _ _ _ _ _ _ b s k).trans (Eq.symm ?_)
  unfold Cert.MixV.G
  exact row_eq _ _ _ _ _ _ _ _ _ _ _ _ (fun k => Cert.MixPre.isR_of_lt _ (congrFun p1 (ix1 k)))
    (fun k => Cert.MixPre.isR_of_lt _ (congrFun p2 (ix1 k))) (fun t j => Cert.MixPre.isR_of_lt _ (congrFun p3 (ix3 b t j)))
    (fun i j => Cert.MixPre.isR_of_lt _ (congrFun p4 (ix2 i j))) k

set_option maxHeartbeats 1600000 in
/-- The kernel and the reference end with equal results. -/
theorem algebraic : algebraic_KernelIdeal_ReferenceIdeal_pre_finite := by
  pair_intro
  · run_from Cert.KernelIdeal.Gen.run_main m g
  · run_from Cert.ReferenceIdeal.Value.run m' g'
    obtain ⟨h0, h1, h2, h3, h4, h5, h6, h7, h8, h9, h10, h11⟩ := hagree c
    rw [← h10, ← h11]
    have e := result_eq m m' hpre c h0 h1 h2 h3 h4 h5 h6 h7 h8 h9 h10 h11
    refine (Cert.ReferenceIdeal.Read.val_main_v81_eq (Idealize.ShloMosaic.StableHlo.launchContents m' c)).trans ?_
    exact e

/-- The input projections and their reference end with equal results. -/
theorem inproj_algebraic : algebraic_InprojIdeal_InprojReferenceIdeal := by
  pair_intro
  · run_from Cert.InprojIdeal.Gen.run_main m g
  · run_from Cert.InprojReferenceIdeal.Value.run m' g'
    · exact (Cert.InprojReferenceIdeal.Read.val_main_v3_eq _ _).trans ((Cert.InprojV.ref3_eq _ _).trans (Cert.InprojV.final3 m c).symm)
    · exact (Cert.InprojReferenceIdeal.Read.val_main_v5_eq _ _).trans ((Cert.InprojV.ref4_eq _ _).trans (Cert.InprojV.final4 m c).symm)

/-- The memory's projection and its reference end with equal results. -/
theorem memkv_algebraic : algebraic_MemkvIdeal_MemkvReferenceIdeal := by
  pair_intro
  · run_from Cert.MemkvIdeal.Gen.run_main m g
  · run_from Cert.MemkvReferenceIdeal.Value.run m' g'
    exact (Cert.MemkvReferenceIdeal.Read.val_main_v1_eq _ _).trans ((Cert.MemkvV.ref_eq _ _).trans (Cert.MemkvV.final m c).symm)

/-- The packed weights and their reference end with equal results. -/
theorem pack_algebraic : algebraic_PackIdeal_PackReferenceIdeal := by
  pair_intro
  · run_from Cert.PackIdeal.Gen.run_main m g
  · run_from Cert.PackReferenceIdeal.Value.run m' g'
    · exact (Cert.PackReferenceIdeal.Read.val_main_v6_eq _).trans ((Cert.PackV.ref1_eq _).trans
        ((congrArg Cert.PackV.G1 (hagree c)).trans (Cert.PackV.final1 m c).symm))
    · exact (Cert.PackReferenceIdeal.Read.val_main_v8_eq _).trans ((Cert.PackV.ref2_eq _).trans (Cert.PackV.final2 m c).symm)

/-- Equal arguments of the feed-forward block give equal results. -/
theorem ffn_congr {X X' W W' K K' B B' D D' g g' b b'} (h0 : X = X') (h1 : W = W') (h2 : K = K') (h3 : B = B')
    (h4 : D = D') (h5 : g = g') (h6 : b = b') : Cert.FfnV.G X W K B D g b = Cert.FfnV.G X' W' K' B' D' g' b' := by
  subst h0 h1 h2 h3 h4 h5 h6
  rfl

/-- The feed-forward block and its reference end with equal results. -/
theorem ffn_algebraic : algebraic_FfnIdeal_FfnReferenceIdeal := by
  pair_intro
  · run_from Cert.FfnIdeal.Gen.run_main m g
  · run_from Cert.FfnReferenceIdeal.Value.run m' g'
    obtain ⟨h0, h1, h2, h3, h4, h5, h6⟩ := hagree c
    refine (Cert.FfnReferenceIdeal.Read.val_main_v69_eq _ _).trans
      ((Cert.FfnV.ref_eq _ _ _ _ _ _ _).trans (Eq.trans ?_ (Cert.FfnV.final m c).symm))
    exact ffn_congr h0 h1 h2 h3 h4 h5 h6

/-- Gates and a bias above minus infinity have a sum above it. -/
theorem gates_open (m : (ℓ : Loc Cert.GatesIdeal.nD Cert.GatesIdeal.τ Cert.GatesIdeal.sig) → Buf (Elt Ideal) ℓ) (hpre : Pre_GatesIdeal_open_gates m) (c : Dev Cert.GatesIdeal.nD) :
    Cert.GatesV.OpenIn (m ((c.tc : Thread Cert.GatesIdeal.nD Cert.GatesIdeal.τ).loc Cert.GatesIdeal.main_arg0)) (m ((c.tc : Thread Cert.GatesIdeal.nD Cert.GatesIdeal.τ).loc Cert.GatesIdeal.main_arg1)) := by
  obtain ⟨p1, p2⟩ := hpre c
  intro i t h
  have e : extractStridedSlice Cert.Pre_open_gates.S16x2048x4 ![0, 0, 0] (m ((c.tc : Thread Cert.GatesIdeal.nD Cert.GatesIdeal.τ).loc Cert.GatesIdeal.main_arg0) : FVec Ideal Cert.Pre_open_gates.S16x2048x128 .f32)
      gatesPreFacts.slices_S16x2048x128_S16x2048x4_0_0_0 (ix3 i t h)
      = (m ((c.tc : Thread Cert.GatesIdeal.nD Cert.GatesIdeal.τ).loc Cert.GatesIdeal.main_arg0) : FVec Ideal Cert.Pre_open_gates.S16x2048x128 .f32) (ix3 i t (h.castLE (by decide))) := by
    pointwise []
    rfl
  have q : (m ((c.tc : Thread Cert.GatesIdeal.nD Cert.GatesIdeal.τ).loc Cert.GatesIdeal.main_arg0) : FVec Ideal Cert.Pre_open_gates.S16x2048x128 .f32) (ix3 i t (h.castLE (by decide))) ≠ (⊥ : EReal) := by
    rw [← e]
    exact Cert.MixPre.ne_bot_of_gt _ (congrFun p1 (ix3 i t h))
  exact fun g => (EReal.add_eq_bot_iff.mp g).elim q (Cert.MixPre.ne_bot_of_gt _ (congrFun p2 (ix1 h)))

/-- The forget gates' call and its reference end with equal results. -/
theorem gates_algebraic : algebraic_GatesIdeal_GatesReferenceIdeal_pre_open_gates := by
  pair_intro
  · run_from Cert.GatesIdeal.Gen.run_main m g
    first
    | rfl
    | (entry_read; rfl)
  · run_from Cert.GatesReferenceIdeal.Value.run m' g'
    · have r := gates_open m hpre c
      obtain ⟨h0, h1⟩ := hagree c
      refine (Cert.GatesReferenceIdeal.Read.val_main_v24_eq _ _).trans (Eq.trans ?_ (Cert.GatesV.final2 m c r).symm)
      exact (congrArg₂ Cert.GatesReferenceIdeal.Read.val_main_v24 h0 h1).trans (Cert.GatesV.ref2_eq _ _ r)
    · have r := gates_open m hpre c
      obtain ⟨h0, h1⟩ := hagree c
      refine (Cert.GatesReferenceIdeal.Read.val_main_v25_eq _ _).trans (Eq.trans ?_ (Cert.GatesV.final3 m c r).symm)
      exact (congrArg₂ Cert.GatesReferenceIdeal.Read.val_main_v25 h0 h1).trans (Cert.GatesV.ref3_eq _ _ r)

/-- Every claim. -/
theorem claim : Cert.Claim := ⟨Cert.Kernel.Gen.facts, Cert.KernelIdeal.Gen.facts, Cert.ReferenceIdeal.Gen.facts,
  Cert.Inproj.Gen.facts, Cert.InprojIdeal.Gen.facts, Cert.InprojReferenceIdeal.Gen.facts, Cert.Memkv.Gen.facts, Cert.MemkvIdeal.Gen.facts, Cert.MemkvReferenceIdeal.Gen.facts, Cert.Pack.Gen.facts, Cert.PackIdeal.Gen.facts, Cert.PackReferenceIdeal.Gen.facts,
  Cert.Ffn.Gen.facts, Cert.FfnIdeal.Gen.facts, Cert.FfnReferenceIdeal.Gen.facts,
  Cert.Gates.Gen.facts, Cert.GatesIdeal.Gen.facts, Cert.GatesReferenceIdeal.Gen.facts, preFacts, gatesPreFacts,
  fun m ρ _ => Cert.Kernel.Gen.frame m ρ, fun m ρ _ => Cert.KernelIdeal.Gen.frame m ρ,
  fun m ρ _ => Cert.KernelIdeal.Gen.frame m ρ, ref_frame, fun m ρ _ => ref_frame m ρ trivial,
  fun m ρ _ => Cert.Inproj.Gen.frame m ρ, fun m ρ _ => Cert.InprojIdeal.Gen.frame m ρ, inproj_ref_frame,
  fun m ρ _ => Cert.Memkv.Gen.frame m ρ, fun m ρ _ => Cert.MemkvIdeal.Gen.frame m ρ, memkv_ref_frame,
  fun m ρ _ => Cert.Pack.Gen.frame m ρ, fun m ρ _ => Cert.PackIdeal.Gen.frame m ρ, pack_ref_frame,
  fun m ρ _ => Cert.Ffn.Gen.frame m ρ, fun m ρ _ => Cert.FfnIdeal.Gen.frame m ρ, ffn_ref_frame,
  fun m ρ _ => Cert.Gates.Gen.frame m ρ, fun m ρ _ => Cert.GatesIdeal.Gen.frame m ρ, fun m ρ _ => Cert.GatesIdeal.Gen.frame m ρ,
  gates_ref_frame, fun m ρ _ => gates_ref_frame m ρ trivial,
  trivial, algebraic, trivial, inproj_algebraic, trivial, memkv_algebraic, trivial, pack_algebraic, trivial, ffn_algebraic, trivial, gates_algebraic⟩

end Cert.Proof

end
